-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gate_finite : Cert.Pre_gate_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ preserves_Kernel_KernelIdeal
    ∧ algebraic_KernelIdeal_ReferenceIdeal_pre_gate_finite (hKernelIdeal := hKernelIdeal) (hReferenceIdeal := hReferenceIdeal) (hPre_gate_finite := hPre_gate_finite)
-- ==== Pre_gate_finite.lean ====
abbrev S2048x1024 : Shape := ⟨2, ![2048, 1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S_ : Shape := ⟨0, ![]⟩

class Facts : Prop where
  bcast_S_S2048x1024 : S_.BroadcastsInDim S2048x1024 (![] : Fin 0 → Fin S2048x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S2048x1024 .f32) (main_arg1 : FVec F S1024x8 .f32) (main_arg2 : FVec F S8 .f32) (main_arg3 : FVec F S8x1024x1024 .f32) (main_arg4 : FVec F S8x1024 .f32) : IVec S2048x1024 1 × IVec S1024x8 1 × IVec S8 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S2048x1024 : Shape := ⟨2, ![2048, 1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S1x8 : Shape := ⟨2, ![1, 8]⟩
abbrev S2048x2 : Shape := ⟨2, ![2048, 2]⟩
abbrev S8x512 : Shape := ⟨2, ![8, 512]⟩
abbrev S2048x512 : Shape := ⟨2, ![2048, 512]⟩
abbrev S2048x8 : Shape := ⟨2, ![2048, 8]⟩
abbrev S3x1024x512 : Shape := ⟨3, ![3, 1024, 512]⟩
abbrev S3 : Shape := ⟨1, ![3]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S2048 : Shape := ⟨1, ![2048]⟩
abbrev S2048x1 : Shape := ⟨2, ![2048, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S8x1024x1024, .f32⟩
  | .hbm, ⟨4, _⟩ => ⟨S8x1024, .f32⟩
  | .hbm, ⟨5, _⟩ => ⟨S1x8, .f32⟩
  | .hbm, ⟨6, _⟩ => ⟨S2048x1024, .f32⟩
  | .hbm, ⟨7, _⟩ => ⟨S2048x2, .i32⟩
  | .local _ .vmem, ⟨0, _⟩ => ⟨S2048x1024, .f32⟩
  | .local _ .vmem, ⟨1, _⟩ => ⟨S1024x8, .f32⟩
  | .local _ .vmem, ⟨2, _⟩ => ⟨S1x8, .f32⟩
  | .local _ .vmem, ⟨3, _⟩ => ⟨S8x512, .f32⟩
  | .local _ .vmem, ⟨4, _⟩ => ⟨S8x512, .f32⟩
  | .local _ .vmem, ⟨5, _⟩ => ⟨S2048x512, .f32⟩
  | .local _ .vmem, ⟨6, _⟩ => ⟨S2048x512, .f32⟩
  | .local _ .vmem, ⟨7, _⟩ => ⟨S2048x2, .i32⟩
  | .local _ .vmem, ⟨8, _⟩ => ⟨S2048x8, .f32⟩
  | .local _ .vmem, ⟨9, _⟩ => ⟨S2048x1024, .bf16⟩
  | .local _ .vmem, ⟨10, _⟩ => ⟨S3x1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let c0_i32 : BitVec 32 := 0#32
  let c0_i32_4 : BitVec 32 := 0#32
  let arg0 : BitVec 32 := BitVec.ofNat 32 (i 0).val
  let c512_i32 : BitVec 32 := 512#32
  let v0 : BitVec 32 := Scalar.muli arg0 c512_i32
  ![0, 0, v0.toNat]
def k0_off2 (i : grid0.Coords) : Fin 3 → Nat :=
  let c1_i32 : BitVec 32 := 1#32
  let c0_i32_10 : BitVec 32 := 0#32
  let arg0 : BitVec 32 := BitVec.ofNat 32 (i 0).val
  let c512_i32_5 : BitVec 32 := 512#32
  let v7 : BitVec 32 := Scalar.muli arg0 c512_i32_5
  ![1, 0, v7.toNat]
def k0_off3 (i : grid0.Coords) : Fin 3 → Nat :=
  let c2_i32 : BitVec 32 := 2#32
  let c0_i32_21 : BitVec 32 := 0#32
  let arg0 : BitVec 32 := BitVec.ofNat 32 (i 0).val
  let c512_i32_16 : BitVec 32 := 512#32
  let v21 : BitVec 32 := Scalar.muli arg0 c512_i32_16
  ![2, 0, v21.toNat]
def k0_off4 (i : grid0.Coords) : Fin 3 → Nat :=
  let c3_i32 : BitVec 32 := 3#32
  let c0_i32_42 : BitVec 32 := 0#32
  let arg0 : BitVec 32 := BitVec.ofNat 32 (i 0).val
  let c512_i32_37 : BitVec 32 := 512#32
  let v50 : BitVec 32 := Scalar.muli arg0 c512_i32_37
  ![3, 0, v50.toNat]
def k0_off5 (i : grid0.Coords) : Fin 3 → Nat :=
  let c4_i32 : BitVec 32 := 4#32
  let c0_i32_62 : BitVec 32 := 0#32
  let arg0 : BitVec 32 := BitVec.ofNat 32 (i 0).val
  let c512_i32_57 : BitVec 32 := 512#32
  let v79 : BitVec 32 := Scalar.muli arg0 c512_i32_57
  ![4, 0, v79.toNat]
def k0_off6 (i : grid0.Coords) : Fin 3 → Nat :=
  let c5_i32 : BitVec 32 := 5#32
  let c0_i32_82 : BitVec 32 := 0#32
  let arg0 : BitVec 32 := BitVec.ofNat 32 (i 0).val
  let c512_i32_77 : BitVec 32 := 512#32
  let v108 : BitVec 32 := Scalar.muli arg0 c512_i32_77
  ![5, 0, v108.toNat]
def k0_off7 (i : grid0.Coords) : Fin 3 → Nat :=
  let c6_i32 : BitVec 32 := 6#32
  let c0_i32_103 : BitVec 32 := 0#32
  let arg0 : BitVec 32 := BitVec.ofNat 32 (i 0).val
  let c512_i32_98 : BitVec 32 := 512#32
  let v137 : BitVec 32 := Scalar.muli arg0 c512_i32_98
  ![6, 0, v137.toNat]
def k0_off8 (i : grid0.Coords) : Fin 3 → Nat :=
  let c7_i32 : BitVec 32 := 7#32
  let c0_i32_124 : BitVec 32 := 0#32
  let arg0 : BitVec 32 := BitVec.ofNat 32 (i 0).val
  let c512_i32_119 : BitVec 32 := 512#32
  let v166 : BitVec 32 := Scalar.muli arg0 c512_i32_119
  ![7, 0, v166.toNat]
def k0_cond1 (i : grid0.Coords) : BitVec 1 :=
  let arg0 : BitVec 32 := BitVec.ofNat 32 (i 0).val
  let c0_i32_11 : BitVec 32 := 0#32
  let v14 : BitVec 1 := Scalar.cmpi .eq arg0 c0_i32_11
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x1024 : Shape := ⟨2, ![2048, 1024]⟩
abbrev S1024x8 : Shape := ⟨2, ![1024, 8]⟩
abbrev S8 : Shape := ⟨1, ![8]⟩
abbrev S8x1024x1024 : Shape := ⟨3, ![8, 1024, 1024]⟩
abbrev S8x1024 : Shape := ⟨2, ![8, 1024]⟩
abbrev S2048x8 : Shape := ⟨2, ![2048, 8]⟩
abbrev S1x8 : Shape := ⟨2, ![1, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1x1x8 : Shape := ⟨3, ![1, 1, 8]⟩
abbrev S2048x2x8 : Shape := ⟨3, ![2048, 2, 8]⟩
abbrev S2048x8x1024 : Shape := ⟨3, ![2048, 8, 1024]⟩
abbrev S1x8x1024 : Shape := ⟨3, ![1, 8, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S8x1024x1024, .f32⟩
  | .hbm, ⟨4, _⟩ => ⟨S8x1024, .f32⟩
  | .hbm, ⟨5, _⟩ => ⟨S2048x8, .f32⟩
  | .hbm, ⟨6, _⟩ => ⟨S1x8, .f32⟩
  | .hbm, ⟨7, _⟩ => ⟨S2048x8, .f32⟩
  | .hbm, ⟨8, _⟩ => ⟨S2048x8, .f32⟩
  | .hbm, ⟨9, _⟩ => ⟨S2048x2, .f32⟩
  | .hbm, ⟨10, _⟩ => ⟨S2048x2, .i32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x2, .f32⟩
  | .hbm, ⟨18, _⟩ => ⟨S2048x2, .f32⟩
  | .hbm, ⟨19, _⟩ => ⟨S2048x2, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x2, .f32⟩
  | .hbm, ⟨24, _⟩ => ⟨S2048x2, .f32⟩
  | .hbm, ⟨25, _⟩ => ⟨S2048x2x1, .i32⟩
  | .hbm, ⟨26, _⟩ => ⟨S1x1x8, .i32⟩
  | .hbm, ⟨27, _⟩ => ⟨S2048x2x8, .i32⟩
  | .hbm, ⟨28, _⟩ => ⟨S2048x2x8, .i32⟩
  | .hbm, ⟨29, _⟩ => ⟨S2048x2x8, .i1⟩
  | .hbm, ⟨30, _⟩ => ⟨S2048x2x8, .f32⟩
  | .hbm, ⟨31, _⟩ => ⟨S2048x8, .f32⟩
  | .hbm, ⟨32, _⟩ => ⟨S2048x8x1024, .f32⟩
  | .hbm, ⟨33, _⟩ => ⟨S1x8x1024, .f32⟩
  | .hbm, ⟨34, _⟩ => ⟨S2048x8x1024, .f32⟩
  | .hbm, ⟨35, _⟩ => ⟨S2048x8x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.Hand.Kit.lean ====
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-!
The set-up of the launch: the program up to the kernel's call, the body's branch, and the buffers and semaphores the
body uses.
-/

@[expose] public section

-- the longest axis has 2048 coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Up to the kernel's call -/

/-- The program up to the kernel's call, over resources that also track the kernel's own transfers. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [cond0_0, k0_cond1, e0]
    word_cmp
   : ∀ t : Fin grid0.N, cond0_0 (grid0.coords t) ↔ t.val % 2 = 0)

/-! ## The buffers the body uses -/

/-- Each window's current staging memref at point `t`, spelled as the pipeline passes it (`bodyAt0`), and its wholeness. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2 .i32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x8 .f32 := Memref.whole cc0_scratch0
abbrev scM0_1 : Memref sig .tc .vmem S2048x1024 .bf16 := Memref.whole cc0_scratch1
abbrev scM0_2 : Memref sig .tc .vmem S3x1024x512 .f32 := Memref.whole cc0_scratch2
/-- The operands left in HBM that the body copies into scratch itself, whole. -/
abbrev hbM0_0 : Memref sig .tc .hbm S8x1024x1024 .f32 := Memref.whole main_arg3
/-- Memref `M`'s buffer on core `c`: its contents type, and it held whole at `f`, named so that the
    view stays folded while a goal is rewritten. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 8, SemLoc.dma 9, SemLoc.dma 10] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg3))) := by
  rw [Pipeline.ΦD_eq, scopedRest0_eq, ownSems00_eq, hbmPts0_eq]; simp only [scM0_0, scM0_1, scM0_2, owns_whole]; try rfl

end Cert.KernelIdeal.Hand

end
-- ==== Proof.Hand.Values.lean ====
module

public import proofs.«01_k».proof.Proof.Gen.KernelIdeal.Skeleton
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! # What the body computes at a grid point, as functions of what its buffers hold

The gate (point 0 only) and the expert loop, spelled with the operations of the printed program. -/

/-- The combination weights the gate leaves in scratch, from the tokens, the gate's matrix and its bias. -/
def gateComb (x : Vec F S2048x1024 .f32) (wg : Vec F S1024x8 .f32) (bg : Vec F S1x8 .f32) : Vec F S2048x8 .f32 :=
  k0_pay13 (iota .tc S2048x8 32 [1] iota_S2048x8_d1_w32) (k0_pay7 x wg bg) (k0_pay9 x wg bg) (k0_pay10 x wg bg) (k0_pay11 x wg bg) k0_pay12

/-- The pair of experts the gate chooses for each token. -/
def gateIdx (x : Vec F S2048x1024 .f32) (wg : Vec F S1024x8 .f32) (bg : Vec F S1x8 .f32) : Vec F S2048x2 .i32 :=
  k0_pay14 (k0_pay4 x wg bg) (k0_pay7 x wg bg)

/-- Expert `e`'s column of the combination weights, summed out of the row by a mask. -/
def coef (comb : Vec F S2048x8 .f32) (e : BitVec 32) : FVec F S2048x1 .f32 :=
  shapeCast S2048x1 (multiReduction .add [1] S2048
    (mulf comb (sitofp .f32 (extui 32 (cmpi .eq (iota .tc S2048x8 32 [1] iota_S2048x8_d1_w32) (broadcast S2048x8 e)) natLt_1_32)))
    0x00000000#32 reduces_S2048x8_S2048 (.inl rfl) rfl) shapeCasts_S2048_S2048x1

/-- Expert `e`'s addend: its column of weights times the tokens' product with its block of the weights. -/
def expertTerm (comb : Vec F S2048x8 .f32) (xb : Vec F S2048x1024 .bf16) (e : BitVec 32) (w : Vec F S1x1024x512 .f32) : FVec F S2048x512 .f32 :=
  mulf (broadcastTo S2048x512 (coef comb e) broadcasts_S2048x1_S2048x512)
    (matmul dot_S2048x1024_S1024x512_S2048x512_1_0_0_1_n_n none xb
      (truncf .bf16 (shapeCast S1024x512 w shapeCasts_S1x1024x512_S1024x512) bitsLt_bf16_f32) (constant S2048x512 .f32 0x00000000#32))

/-- The block of the output a point leaves: the combined biases, and then the eight experts' addends in order. -/
def blockOut (comb : Vec F S2048x8 .f32) (xb : Vec F S2048x1024 .bf16) (bb : Vec F S8x512 .f32) (w : Fin 8 → Vec F S1x1024x512 .f32) : FVec F S2048x512 .f32 :=
  addf (addf (addf (addf (addf (addf (addf (addf
    (matmul dot_S2048x8_S8x512_S2048x512_1_0_0_1_n_n none comb bb (constant S2048x512 .f32 0x00000000#32))
    (expertTerm comb xb 0#32 (w 0))) (expertTerm comb xb 1#32 (w 1))) (expertTerm comb xb 2#32 (w 2))) (expertTerm comb xb 3#32 (w 3)))
    (expertTerm comb xb 4#32 (w 4))) (expertTerm comb xb 5#32 (w 5))) (expertTerm comb xb 6#32 (w 6))) (expertTerm comb xb 7#32 (w 7))

/-- Expert `e`'s block of the weights at column block `n`: rows whole, columns `512 n` on. -/
def wBlk (n : Fin 2) (W : Vec F S8x1024x1024 .f32) (e : Fin 8) : Vec F S1x1024x512 .f32 :=
  fun j => W (ix3 e (j 1 : Fin 1024)
    (⟨512 * n.val + (j 2 : Fin 512).val, by have := n.isLt; have h : (j 2).val < 512 := (j 2).isLt; omega⟩ : Fin 1024))

end Cert.KernelIdeal.Hand
-- ==== Proof.Hand.Slots.lean ====
module

public import proofs.«01_k».proof.Proof.Hand.Values
public import Idealize.ShloMosaic.Lib.ViewIndex

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! # The three-slot ring: what a load of a slot reads

Copies land in slot `e mod 3`; a load of a slot reads the last copy that landed there, whatever landed in the other slots since. -/

/-- The word of the copies' column offset: `512 n`. -/
theorem colOff (n : ℕ) (h : n < 2) : (Scalar.muli (BitVec.ofNat 32 n) 512#32).toNat = 512 * n := by
  interval_cases n <;> rfl

/-- The offsets a copy of expert `e` reads from: that expert, row 0, column `512 n`. -/
theorem off_eq (e : Fin 8) (i : grid0.Coords) :
    (![e.val, 0, (Scalar.muli (BitVec.ofNat 32 (i 0).val) 512#32).toNat] : Fin 3 → ℕ) = ![e.val, 0, 512 * (i 0 : Fin 2).val] := by
  rw [colOff _ (i 0).isLt]

variable {sp : Space}

/-- An index of a slot is a row and a column. -/
theorem slotIdx (j : S1x1024x512.Idx) : ∃ (a : Fin 1024) (b : Fin 512), j = ix3 (0 : Fin 1) a b :=
  ⟨j 1, j 2, Shape.idx3_ext (by have h : (j 0).val < 1 := (j 0).isLt; show (j 0).val = 0; omega) rfl rfl⟩

/-- A row and a column of the squeezed slot are that row and column of the slot. -/
theorem unsqueeze (h : S1024x512.numel = S1x1024x512.numel) (a : Fin 1024) (b : Fin 512) :
    Shape.reshapeEquiv h (ix2 a b) = ix3 (0 : Fin 1) a b := reshapeEquiv_ix2_1ab h a b

/-- A slot loaded after a copy into that slot: the copy's payload. -/
theorem slot_hit (M : Memref sig .tc sp S3x1024x512 .f32) {off : Fin 3 → ℕ}
    (inb inb' : ∀ a, off a + S1x1024x512.size a ≤ S3x1024x512.size a) (hr) (hq : S1x1024x512.Squeezes S1024x512)
    (f : M.view.ty.Contents (Elt F)) (d : S1024x512.Idx → Elt F .f32) :
    M.view.readAt (Elt F) (Rect.unit (s := S3x1024x512) off S1x1024x512.size inb).toLoadRect
        (View.write (Elt F) ((M.slice (Rect.unit (s := S3x1024x512) off S1x1024x512.size inb') hr).squeeze S1024x512 hq).view f d Finset.univ)
      = fun j : S1x1024x512.Idx => d (@ix2 1024 512 (j 1) (j 2)) := by
  funext j
  obtain ⟨a, b, rfl⟩ := slotIdx j
  refine Eq.trans ?_ (View.read_write_reshape (M.view.slice (Rect.unit (s := S3x1024x512) off S1x1024x512.size inb')) hq.numel_eq f d (ix2 a b))
  rw [unsqueeze]
  rfl

/-- A slot loaded after a copy into another slot: as if the copy had not been. -/
theorem slot_miss (M : Memref sig .tc sp S3x1024x512 .f32) {off off' : Fin 3 → ℕ}
    (inb : ∀ a, off a + S1x1024x512.size a ≤ S3x1024x512.size a) (inb' : ∀ a, off' a + S1x1024x512.size a ≤ S3x1024x512.size a) (hr)
    (hq : S1x1024x512.Squeezes S1024x512)
    (f : M.view.ty.Contents (Elt F)) (d : S1024x512.Idx → Elt F .f32) (hne : off 0 ≠ off' 0) :
    M.view.readAt (Elt F) (Rect.unit (s := S3x1024x512) off S1x1024x512.size inb).toLoadRect
        (View.write (Elt F) ((M.slice (Rect.unit (s := S3x1024x512) off' S1x1024x512.size inb') hr).squeeze S1024x512 hq).view f d Finset.univ)
      = M.view.readAt (Elt F) (Rect.unit (s := S3x1024x512) off S1x1024x512.size inb).toLoadRect f := by
  refine View.readAt_congr fun k hk => View.write_of_not_mem _ _ _ fun hm => hne ?_
  obtain ⟨x, -, hx⟩ := Finset.mem_map.mp hm
  obtain ⟨y, hy, hy'⟩ := Finset.mem_map.mp hk
  have e : (Rect.unit (s := S3x1024x512) off' S1x1024x512.size inb').emb (Shape.reshapeEquiv hq.numel_eq x) = y :=
    M.view.emb.injective (hx.trans hy'.symm)
  have h0 := (Rect.mem_set_unit.mp hy) 0
  have h1 := congrArg (fun z : S3x1024x512.Idx => (z 0).val) e
  have h2 : off' 0 + 1 * ((Shape.reshapeEquiv hq.numel_eq x) 0).val = (y 0).val := h1
  have h3 : ((Shape.reshapeEquiv hq.numel_eq x) 0).val < 1 := ((Shape.reshapeEquiv hq.numel_eq x) 0).isLt
  have h4 : off 0 ≤ (y 0).val ∧ (y 0).val < off 0 + 1 := h0
  omega

/-- A slot loaded after the copy of an expert's block into it: that block. -/
theorem slot_load (M : Memref sig .tc sp S3x1024x512 .f32) {off : Fin 3 → ℕ}
    (inb inb' : ∀ a, off a + S1x1024x512.size a ≤ S3x1024x512.size a) (hr) (hq : S1x1024x512.Squeezes S1024x512)
    (f : M.view.ty.Contents (Elt F)) (n : Fin 2) (e : Fin 8) {woff : Fin 3 → ℕ} (hw : woff = ![e.val, 0, 512 * n.val])
    (winb : ∀ a, woff a + S1x1024x512.size a ≤ S8x1024x1024.size a) (hr') (hq' : S1x1024x512.Squeezes S1024x512)
    (fh : (Memref.whole (sig := sig) main_arg3).view.ty.Contents (Elt F)) :
    M.view.readAt (Elt F) (Rect.unit (s := S3x1024x512) off S1x1024x512.size inb).toLoadRect
        (View.write (Elt F) ((M.slice (Rect.unit (s := S3x1024x512) off S1x1024x512.size inb') hr).squeeze S1024x512 hq).view f
          (ReadAs.same.apply (View.read (Elt F)
            (((Memref.whole (sig := sig) main_arg3).slice (Rect.unit (s := S8x1024x1024) woff S1x1024x512.size winb) hr').squeeze S1024x512 hq').view fh))
          Finset.univ)
      = wBlk n ((Memref.whole (sig := sig) main_arg3).view.read (Elt F) fh) e := by
  rw [slot_hit]
  subst hw
  funext j
  obtain ⟨a, b, rfl⟩ := slotIdx j
  show (Memref.whole (sig := sig) main_arg3).view.read (Elt F) fh ((Rect.unit (s := S8x1024x1024) _ S1x1024x512.size winb).emb
    (Shape.reshapeEquiv hq'.numel_eq (ix2 a b))) = _
  rw [unsqueeze]
  unfold wBlk
  congr 1
  apply Shape.idx3_ext
  · show e.val + 1 * 0 = e.val; omega
  · show 0 + 1 * a.val = a.val; omega
  · show 512 * n.val + 1 * b.val = 512 * n.val + b.val; omega

end Cert.KernelIdeal.Hand
-- ==== Proof.Hand.Body0.lean ====
module

public import proofs.«01_k».proof.Proof.Hand.Kit
public import proofs.«01_k».proof.Proof.Hand.Slots
public import Idealize.ShloMosaic.Lib.VecWindow

@[expose] public section

-- the longest axis has 2048 coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in set_option sl_exec.dmaWindow true in set_option sl_exec.dmaWindowSet true in
/-- The body at the first point: from the inputs at their contents it leaves the output block at `blockOut`, the chosen experts at
    `gateIdx`, the combination weights and the tokens in scratch, its semaphores at zero and the expert weights as they were. -/
theorem bodyRun0 (c : Dev nD) (i : grid0.Coords) (arg1 : Memref sig .tc .vmem S2048x1024 .f32) (harg1 : arg1.IsWhole) (arg2 : Memref sig .tc .vmem S1024x8 .f32) (harg2 : arg2.IsWhole) (arg3 : Memref sig .tc .vmem S1x8 .f32) (harg3 : arg3.IsWhole) (arg5 : Memref sig .tc .vmem S8x512 .f32) (harg5 : arg5.IsWhole) (arg6 : Memref sig .tc .vmem S2048x512 .f32) (harg6 : arg6.IsWhole) (arg7 : Memref sig .tc .vmem S2048x2 .i32) (harg7 : arg7.IsWhole) (arg8 : Memref sig .tc .vmem S2048x8 .f32) (harg8 : arg8.IsWhole) (arg9 : Memref sig .tc .vmem S2048x1024 .bf16) (harg9 : arg9.IsWhole) (arg10 : Memref sig .tc .vmem S3x1024x512 .f32) (harg10 : arg10.IsWhole) (hc0 : cond0_0 i)
    (x0 : Vec F S2048x1024 .f32) (x1 : Vec F S1024x8 .f32) (x2 : Vec F S1x8 .f32) (x3 : Vec F S8x512 .f32) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (blockOut (gateComb x0 x1 x2) (k0_pay15 x0) x3 (wBlk (i 0) (hbM0_0.view.read (Elt F) fh0))) ∗ owns (c : Thread nD τ) arg7 fullShare (gateIdx x0 x1 x2) ∗ owns (c : Thread nD τ) arg8 fullShare (gateComb x0 x1 x2) ∗ owns (c : Thread nD τ) arg9 fullShare (k0_pay15 x0) ∗ (∃ d, owns (c : Thread nD τ) arg10 fullShare d) ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0__moe_dense_body i arg1 harg1 arg2 harg2 arg3 harg3 (Memref.whole main_arg3) (Memref.isWhole_whole _) arg5 harg5 arg6 harg6 arg7 harg7 arg8 harg8 arg9 harg9 arg10 harg10 cc0_scratch3) K := by
    intro W K
    simp only [cc0__moe_dense_body_eq_skeleton]; unfold cc0__moe_dense_body_skel
    simp only [k0_part2_eq_skeleton, k0_part1_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hq0, Hq1, Hq2, Hh0, HW, Hk⟩
    obtain rfl := harg1.eq_unread hf0; obtain rfl := harg2.eq_unread hf1; obtain rfl := harg3.eq_unread hf2; obtain rfl := harg5.eq_unread hf3
    have a1 := (View.readAt_full arg1.view (harg1.unread x0) inb_S2048x1024_S2048x1024_0_0).trans (harg1.read_unread x0)
    have a2 := (View.readAt_full arg2.view (harg2.unread x1) inb_S1024x8_S1024x8_0_0).trans (harg2.read_unread x1)
    have a3 := (View.readAt_full arg3.view (harg3.unread x2) inb_S1x8_S1x8_0_0).trans (harg3.read_unread x2)
    have a5 := (View.readAt_full arg5.view (harg5.unread x3) inb_S8x512_S8x512_0_0).trans (harg5.read_unread x3)
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans ?_
      have hc : bodyRun0.sl.v17 c arg8 x0 x1 x2 = gateComb x0 x1 x2 := by
        delta bodyRun0.sl.v17 bodyRun0.sl.HS0_1 bodyRun0.sl.v247
        refine (View.readCov_full _ _ _ _ _).trans ?_
        rfl
      have hx : bodyRun0.sl.v42 c arg9 x0 = k0_pay15 x0 := by
        delta bodyRun0.sl.v42 bodyRun0.sl.HS1_1
        refine (View.readCov_full _ _ _ _ _).trans ?_
        rfl
      have hx' : bodyRun0.sl.v231 c arg9 x0 = k0_pay15 x0 := by
        delta bodyRun0.sl.v231 bodyRun0.sl.HS1_1
        refine (View.readCov_full _ _ _ _ _).trans ?_
        rfl
      have w0 : bodyRun0.sl.v43 c i arg10 fh0 fs2 = wBlk (i 0) (hbM0_0.view.read (Elt F) fh0) 0 := by
        delta bodyRun0.sl.v43
        repeat refine (slot_miss _ _ _ _ _ _ _ (by decide)).trans ?_
        exact slot_load _ _ _ _ _ _ _ 0 (off_eq 0 i) _ _ _ _
      have w1 : bodyRun0.sl.v72 c i arg10 fh0 fs2 = wBlk (i 0) (hbM0_0.view.read (Elt F) fh0) 1 := by
        delta bodyRun0.sl.v72
        repeat refine (slot_miss _ _ _ _ _ _ _ (by decide)).trans ?_
        exact slot_load _ _ _ _ _ _ _ 1 (off_eq 1 i) _ _ _ _
      have w2 : bodyRun0.sl.v101 c i arg10 fh0 fs2 = wBlk (i 0) (hbM0_0.view.read (Elt F) fh0) 2 := by
        delta bodyRun0.sl.v101
        repeat refine (slot_miss _ _ _ _ _ _ _ (by decide)).trans ?_
        exact slot_load _ _ _ _ _ _ _ 2 (off_eq 2 i) _ _ _ _
      have w3 : bodyRun0.sl.v130 c i arg10 fh0 fs2 = wBlk (i 0) (hbM0_0.view.read (Elt F) fh0) 3 := by
        delta bodyRun0.sl.v130
        repeat refine (slot_miss _ _ _ _ _ _ _ (by decide)).trans ?_
        exact slot_load _ _ _ _ _ _ _ 3 (off_eq 3 i) _ _ _ _
      have w4 : bodyRun0.sl.v159 c i arg10 fh0 fs2 = wBlk (i 0) (hbM0_0.view.read (Elt F) fh0) 4 := by
        delta bodyRun0.sl.v159
        repeat refine (slot_miss _ _ _ _ _ _ _ (by decide)).trans ?_
        exact slot_load _ _ _ _ _ _ _ 4 (off_eq 4 i) _ _ _ _
      have w5 : bodyRun0.sl.v188 c i arg10 fh0 fs2 = wBlk (i 0) (hbM0_0.view.read (Elt F) fh0) 5 := by
        delta bodyRun0.sl.v188
        repeat refine (slot_miss _ _ _ _ _ _ _ (by decide)).trans ?_
        exact slot_load _ _ _ _ _ _ _ 5 (off_eq 5 i) _ _ _ _
      have w6 : bodyRun0.sl.v210 c i arg10 fh0 fs2 = wBlk (i 0) (hbM0_0.view.read (Elt F) fh0) 6 := by
        delta bodyRun0.sl.v210
        repeat refine (slot_miss _ _ _ _ _ _ _ (by decide)).trans ?_
        exact slot_load _ _ _ _ _ _ _ 6 (off_eq 6 i) _ _ _ _
      have w7 : bodyRun0.sl.v232 c i arg10 fh0 fs2 = wBlk (i 0) (hbM0_0.view.read (Elt F) fh0) 7 := by
        delta bodyRun0.sl.v232
        repeat refine (slot_miss _ _ _ _ _ _ _ (by decide)).trans ?_
        exact slot_load _ _ _ _ _ _ _ 7 (off_eq 7 i) _ _ _ _
      delta bodyRun0.sl.r bodyRun0.sl.r_1 bodyRun0.sl.r_2 bodyRun0.sl.r_3 bodyRun0.sl.r_4 bodyRun0.sl.r_5 bodyRun0.sl.r_6 bodyRun0.sl.r_7 bodyRun0.sl.r_8 bodyRun0.sl.r_9 bodyRun0.sl.v247 bodyRun0.sl.cst_139
      rw [hc, hx, hx', w0, w1, w2, w3, w4, w5, w6, w7]
      rfl
    isplitl [H5]
    · iexists _; isplitr; swap; · iexact H5
      ipureintro
      refine (View.read_writes_full _ _ _ _ _).trans ?_
      rfl
    isplitl [HS0]
    · iexists _; isplitr; swap; · iexact HS0
      ipureintro
      refine (View.read_writes_full _ _ _ _ _).trans ?_
      delta bodyRun0.sl.HS0_1 bodyRun0.sl.v247
      rfl
    isplitl [HS1]
    · iexists _; isplitr; swap; · iexact HS1
      ipureintro
      refine (View.read_writes_full _ _ _ _ _).trans ?_
      rfl
    isplitl [HS2]
    · iexists _, _; isplitr; swap; · iexact HS2
      ipureintro; rfl
    isplitl [Hq0]; · iexact Hq0
    isplitl [Hq1]; · iexact Hq1
    isplitl [Hq2]; · iexact Hq2
    isplitl [Hh0]; · iexact Hh0
    iexists _; iexact HW

end Cert.KernelIdeal.Hand

end
-- ==== Proof.Hand.Body1.lean ====
module

public import proofs.«01_k».proof.Proof.Hand.Kit
public import proofs.«01_k».proof.Proof.Hand.Slots
public import Idealize.ShloMosaic.Lib.VecWindow

@[expose] public section

-- the longest axis has 2048 coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in set_option sl_exec.dmaWindow true in set_option sl_exec.dmaWindowSet true in
/-- The body at the second point: with the combination weights and the tokens in scratch it leaves the output block at `blockOut`,
    and the chosen experts, the scratch, its semaphores and the expert weights as they were. -/
theorem bodyRun1 (c : Dev nD) (i : grid0.Coords) (arg1 : Memref sig .tc .vmem S2048x1024 .f32) (harg1 : arg1.IsWhole) (arg2 : Memref sig .tc .vmem S1024x8 .f32) (harg2 : arg2.IsWhole) (arg3 : Memref sig .tc .vmem S1x8 .f32) (harg3 : arg3.IsWhole) (arg5 : Memref sig .tc .vmem S8x512 .f32) (harg5 : arg5.IsWhole) (arg6 : Memref sig .tc .vmem S2048x512 .f32) (harg6 : arg6.IsWhole) (arg7 : Memref sig .tc .vmem S2048x2 .i32) (harg7 : arg7.IsWhole) (arg8 : Memref sig .tc .vmem S2048x8 .f32) (harg8 : arg8.IsWhole) (arg9 : Memref sig .tc .vmem S2048x1024 .bf16) (harg9 : arg9.IsWhole) (arg10 : Memref sig .tc .vmem S3x1024x512 .f32) (harg10 : arg10.IsWhole) (hc0 : ¬cond0_0 i)
    (x0 : Vec F S2048x1024 .f32) (x1 : Vec F S1024x8 .f32) (x2 : Vec F S1x8 .f32) (x3 : Vec F S8x512 .f32) (ix : Vec F S2048x2 .i32) (cb : Vec F S2048x8 .f32) (xb : Vec F S2048x1024 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ (∃ d, owns (c : Thread nD τ) arg6 fullShare d) ∗ owns (c : Thread nD τ) arg7 fullShare (ix) ∗ owns (c : Thread nD τ) arg8 fullShare (cb) ∗ owns (c : Thread nD τ) arg9 fullShare (xb) ∗ (∃ d, owns (c : Thread nD τ) arg10 fullShare d) ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare (blockOut cb xb x3 (wBlk (i 0) (hbM0_0.view.read (Elt F) fh0))) ∗ owns (c : Thread nD τ) arg7 fullShare (ix) ∗ owns (c : Thread nD τ) arg8 fullShare (cb) ∗ owns (c : Thread nD τ) arg9 fullShare (xb) ∗ (∃ d, owns (c : Thread nD τ) arg10 fullShare d) ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0__moe_dense_body i arg1 harg1 arg2 harg2 arg3 harg3 (Memref.whole main_arg3) (Memref.isWhole_whole _) arg5 harg5 arg6 harg6 arg7 harg7 arg8 harg8 arg9 harg9 arg10 harg10 cc0_scratch3) K := by
    intro W K
    simp only [cc0__moe_dense_body_eq_skeleton]; unfold cc0__moe_dense_body_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hs0, HS0⟩, ⟨%fs1, %hs1, HS1⟩, ⟨%ds2, %fs2, -, HS2⟩, Hq0, Hq1, Hq2, Hh0, HW, Hk⟩
    obtain rfl := harg1.eq_unread hf0; obtain rfl := harg2.eq_unread hf1; obtain rfl := harg3.eq_unread hf2; obtain rfl := harg5.eq_unread hf3
    obtain rfl := harg8.eq_unread hs0; obtain rfl := harg9.eq_unread hs1
    have a5 := (View.readAt_full arg5.view (harg5.unread x3) inb_S8x512_S8x512_0_0).trans (harg5.read_unread x3)
    have a8 := (View.readAt_full arg8.view (harg8.unread cb) inb_S2048x8_S2048x8_0_0).trans (harg8.read_unread cb)
    have a9 := (View.readAt_full arg9.view (harg9.unread xb) inb_S2048x1024_S2048x1024_0_0).trans (harg9.read_unread xb)
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; swap; · iexact H4
      ipureintro
      refine (View.read_writes_full _ _ _ _ _).trans ?_
      have w0 : bodyRun1.sl.v43 c i arg10 fh0 fs2 = wBlk (i 0) (hbM0_0.view.read (Elt F) fh0) 0 := by
        delta bodyRun1.sl.v43
        repeat refine (slot_miss _ _ _ _ _ _ _ (by decide)).trans ?_
        exact slot_load _ _ _ _ _ _ _ 0 (off_eq 0 i) _ _ _ _
      have w1 : bodyRun1.sl.v72 c i arg10 fh0 fs2 = wBlk (i 0) (hbM0_0.view.read (Elt F) fh0) 1 := by
        delta bodyRun1.sl.v72
        repeat refine (slot_miss _ _ _ _ _ _ _ (by decide)).trans ?_
        exact slot_load _ _ _ _ _ _ _ 1 (off_eq 1 i) _ _ _ _
      have w2 : bodyRun1.sl.v101 c i arg10 fh0 fs2 = wBlk (i 0) (hbM0_0.view.read (Elt F) fh0) 2 := by
        delta bodyRun1.sl.v101
        repeat refine (slot_miss _ _ _ _ _ _ _ (by decide)).trans ?_
        exact slot_load _ _ _ _ _ _ _ 2 (off_eq 2 i) _ _ _ _
      have w3 : bodyRun1.sl.v130 c i arg10 fh0 fs2 = wBlk (i 0) (hbM0_0.view.read (Elt F) fh0) 3 := by
        delta bodyRun1.sl.v130
        repeat refine (slot_miss _ _ _ _ _ _ _ (by decide)).trans ?_
        exact slot_load _ _ _ _ _ _ _ 3 (off_eq 3 i) _ _ _ _
      have w4 : bodyRun1.sl.v159 c i arg10 fh0 fs2 = wBlk (i 0) (hbM0_0.view.read (Elt F) fh0) 4 := by
        delta bodyRun1.sl.v159
        repeat refine (slot_miss _ _ _ _ _ _ _ (by decide)).trans ?_
        exact slot_load _ _ _ _ _ _ _ 4 (off_eq 4 i) _ _ _ _
      have w5 : bodyRun1.sl.v188 c i arg10 fh0 fs2 = wBlk (i 0) (hbM0_0.view.read (Elt F) fh0) 5 := by
        delta bodyRun1.sl.v188
        repeat refine (slot_miss _ _ _ _ _ _ _ (by decide)).trans ?_
        exact slot_load _ _ _ _ _ _ _ 5 (off_eq 5 i) _ _ _ _
      have w6 : bodyRun1.sl.v210 c i arg10 fh0 fs2 = wBlk (i 0) (hbM0_0.view.read (Elt F) fh0) 6 := by
        delta bodyRun1.sl.v210
        repeat refine (slot_miss _ _ _ _ _ _ _ (by decide)).trans ?_
        exact slot_load _ _ _ _ _ _ _ 6 (off_eq 6 i) _ _ _ _
      have w7 : bodyRun1.sl.v232 c i arg10 fh0 fs2 = wBlk (i 0) (hbM0_0.view.read (Elt F) fh0) 7 := by
        delta bodyRun1.sl.v232
        repeat refine (slot_miss _ _ _ _ _ _ _ (by decide)).trans ?_
        exact slot_load _ _ _ _ _ _ _ 7 (off_eq 7 i) _ _ _ _
      delta bodyRun1.sl.r bodyRun1.sl.r_1 bodyRun1.sl.r_2 bodyRun1.sl.r_3 bodyRun1.sl.r_4 bodyRun1.sl.r_5 bodyRun1.sl.r_6 bodyRun1.sl.v18 bodyRun1.sl.cst_139
      rw [w0, w1, w2, w3, w4, w5, w6, w7]
      rfl
    isplitl [H5]
    · iexists _; isplitr; swap; · iexact H5
      ipureintro; exact hf5
    isplitl [HS0]
    · iexists _; isplitr; swap; · iexact HS0
      ipureintro; exact harg8.read_unread _
    isplitl [HS1]
    · iexists _; isplitr; swap; · iexact HS1
      ipureintro; exact harg9.read_unread _
    isplitl [HS2]
    · iexists _, _; isplitr; swap; · iexact HS2
      ipureintro; rfl
    isplitl [Hq0]; · iexact Hq0
    isplitl [Hq1]; · iexact Hq1
    isplitl [Hq2]; · iexact Hq2
    isplitl [Hh0]; · iexact Hh0
    iexists _; iexact HW

end Cert.KernelIdeal.Hand

end
-- ==== Proof.Hand.Run.lean ====
module

public import proofs.«01_k».proof.Proof.Hand.Body0
public import proofs.«01_k».proof.Proof.Hand.Body1
public import Idealize.ShloMosaic.Lib.Claim

/-!
The launch of the kernel with the contents of both output windows named.

The scratch operands carry the gate's weights and the narrowed tokens from the first grid point to the
second, so the invariant between the points names them: nothing is known of the scratch at the start, and
after a point the first scratch holds the weights and the second the tokens.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The mixing weights of every token, as the first point computes them from its blocks. -/
def combAt (c : Dev nD) : Vec F S2048x8 .f32 := gateComb (iblk m c 0 t0_0) (iblk m c 1 t0_0) (iblk m c 2 t0_0)
/-- The two chosen experts of every token, as the first point computes them. -/
def idxAt (c : Dev nD) : Vec F S2048x2 .i32 := gateIdx (iblk m c 0 t0_0) (iblk m c 1 t0_0) (iblk m c 2 t0_0)
/-- The tokens in the narrow format, as the first point stores them. -/
def tokAt (c : Dev nD) : Vec F S2048x1024 .bf16 := k0_pay15 (iblk m c 0 t0_0)
/-- The block of the output that point `t` writes. -/
def outAt (c : Dev nD) (t : Fin cfg0.N) : Vec F S2048x512 .f32 :=
  blockOut (combAt m c) (tokAt m c) (iblk m c 3 t) (wBlk (grid0.coords t 0) (hbM0_0.view.read (Elt F) (V m c main_arg3)))

/-- The invariant after a point: the scratch named, the ring of weight blocks at anything, the semaphores at
    zero and the weights in HBM as launched. -/
def carried (c : Dev nD) : sProp 𝕄 :=
  iprop(iprop(owns (c : Thread nD τ) scM0_0 fullShare (combAt m c) ∗ owns (c : Thread nD τ) scM0_1 fullShare (tokAt m c) ∗ (∃ d, owns (c : Thread nD τ) scM0_2 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg3)))

/-- The named invariant forgets to the launch's own. -/
theorem carried_forget (c : Dev nD) : carried m c ⊢ (Pipeline.ΦD osem0 spec0 H0 (V m) c : sProp 𝕄) := by
  rw [PhiD0_eq]; unfold carried
  iintro ⟨⟨HS0, HS1, HS2⟩, Hg, Hq, Hh⟩
  isplitl [HS0 HS1 HS2]
  · isplitl [HS0]; · iexists _; iexact HS0
    isplitl [HS1]; · iexists _; iexact HS1
    iexact HS2
  isplitl [Hg]; · iexact Hg
  isplitl [Hq]; · iexact Hq
  iexact Hh

/-- The proof data of the pipeline on core `c`: each input's buffer at its block, the output block named, the
    index block at the chosen experts from the first point on. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => idxAt m c
  Φ k := if k.val = 0 then Pipeline.ΦD osem0 spec0 H0 (V m) c else carried m c
  q _ := fullShare
  owed _ := 0

/-- The arrays are what the region finds. -/
theorem A_eq (c : Dev nD) (w : Fin cfg0.W) : (dats m 0 c).A w = V m c (Pipeline.arrRef spec0 w) := by
  dsimp only [dats]

theorem Phi_first (c : Dev nD) : (dats m 0 c).Φ 0 = Pipeline.ΦD osem0 spec0 H0 (V m) c := by
  dsimp only [dats]; exact if_pos rfl
theorem Phi_later (c : Dev nD) (k : Fin (cfg0.N + 1)) (h : k.val ≠ 0) : (dats m 0 c).Φ k = carried m c := by
  dsimp only [dats]; exact if_neg h

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = idxAt m c := by dsimp only [dats]

/-- An input window's buffer holds its block at every point, fetched there or not. -/
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d

/-- The index window is written at the first point. -/
theorem live5_first : cfg0.idle 5 (grid0.coords t0_0) = false := by
  have h : k0_cond1 (grid0.coords t0_0) = 1#1 := (hcond0_0 t0_0).mpr rfl
  show (!(k0_cond1 (grid0.coords t0_0) == 1#1)) = false
  rw [h]; rfl
/-- The index window is left alone at the second. -/
theorem idle5_last : cfg0.idle 5 (grid0.coords t0_1) = true := by
  have h : ¬ k0_cond1 (grid0.coords t0_1) = 1#1 := fun h => absurd ((hcond0_0 t0_1).mp h) (by decide)
  show (!(k0_cond1 (grid0.coords t0_1) == 1#1)) = true
  rw [beq_eq_false_iff_ne.mpr h]; rfl

/-- At the second point the index window's buffer still holds what the first point stored. -/
theorem before5_last (c : Dev nD) (d) : (dats m 0 c).before 5 t0_1 d = idxAt m c := by
  rw [(dats m 0 c).before_of_pos 5 t0_1 (by decide) (Pipeline.Window.fetch_out (cfg0.win 5) rfl t0_1) d]
  have hp : (⟨t0_1.val - 1, Nat.lt_of_le_of_lt (Nat.sub_le _ _) t0_1.isLt⟩ : Fin cfg0.N) = t0_0 := rfl
  rw [hp]
  have hfl : (cfg0.win 5).flush t0_0 = false := by
    rw [Bool.eq_false_iff]; exact fun h => absurd ((flush0_5 t0_0).mp h) (by decide)
  rw [if_neg (by rw [hfl]; decide)]
  unfold Dat.left
  rw [show cfg0.idle 5 (cfg0.grid.coords t0_0) = false from live5_first]
  show (dats m 0 c).kept 5 t0_0 d = _
  unfold Dat.kept
  rw [after0_5]
  rfl

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at the first point. -/
theorem sound_first (c : Dev nD) :
    bodyPre m c t0_0 ⊢ wp frame (wpE (defs₀ (F := F)) Variants.none c none) Set.univ (bodyAt0 t0_0) (fun _ => bodyPost m c t0_0) := by
  unfold bodyPre bodyPost bodyAt0
  simp only [before0_0, before0_1, before0_2, before0_3, after0_0, after0_1, after0_2, after0_3, after0_4, after0_5]
  rw [Phi_later m c t0_0.succ (by decide)]
  rw [show (dats m 0 c).Φ t0_0.castSucc = Pipeline.ΦD osem0 spec0 H0 (V m) c from Phi_first m c, PhiD0_eq]
  unfold carried Dat.owesAt Pipeline.owesWithin
  rw [show (dats m 0 c).owed t0_0.castSucc = 0 from rfl, show (dats m 0 c).owed t0_0.succ = 0 from rfl]
  iintro ⟨⟨⟨HS0, HS1, HS2⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩⟩
  iapply ((bodyRun0 c (grid0.coords t0_0) _ _ _ _ _ _ _ _ _ _ _ _ _ _ _ _ _ _ ((hcond0_0 t0_0).mpr rfl) (iblk m c 0 t0_0) (iblk m c 1 t0_0) (iblk m c 2 t0_0) (iblk m c 3 t0_0) (V m c main_arg3)) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [HW]; · iexact HW
  iintro ⟨H0, H1, H2, H3, H4, H5, HS0, HS1, HS2, Hq0, Hq1, Hq2, Hh0, ⟨%W', HW'⟩⟩
  isplitl [HS0 HS1 HS2 Hg Hq0 Hq1 Hq2 Hh0]
  · isplitl [HS0 HS1 HS2]
    · isplitl [HS0]; · iexact HS0
      isplitl [HS1]; · iexact HS1
      iexact HS2
    isplitl [Hg]
    · iexact Hg
    isplitl [Hq0 Hq1 Hq2]
    · isplitl [Hq0]; · iexact Hq0
      isplitl [Hq1]; · iexact Hq1
      iexact Hq2
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

set_option maxHeartbeats 1600000 in
/-- The body at the second point. -/
theorem sound_last (c : Dev nD) :
    bodyPre m c t0_1 ⊢ wp frame (wpE (defs₀ (F := F)) Variants.none c none) Set.univ (bodyAt0 t0_1) (fun _ => bodyPost m c t0_1) := by
  unfold bodyPre bodyPost bodyAt0
  simp only [before0_0, before0_1, before0_2, before0_3, before5_last, after0_0, after0_1, after0_2, after0_3, after0_4, after0_5]
  rw [Phi_later m c t0_1.succ (by decide)]
  rw [Phi_later m c t0_1.castSucc (by decide)]
  unfold carried Dat.owesAt Pipeline.owesWithin
  rw [show (dats m 0 c).owed t0_1.castSucc = 0 from rfl, show (dats m 0 c).owed t0_1.succ = 0 from rfl]
  iintro ⟨⟨⟨HS0, HS1, HS2⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩⟩
  iapply ((bodyRun1 c (grid0.coords t0_1) _ _ _ _ _ _ _ _ _ _ _ _ _ _ _ _ _ _ (fun h => absurd ((hcond0_0 t0_1).mp h) (by decide)) (iblk m c 0 t0_1) (iblk m c 1 t0_1) (iblk m c 2 t0_1) (iblk m c 3 t0_1) (idxAt m c) (combAt m c) (tokAt m c) (V m c main_arg3)) W _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [HW]; · iexact HW
  iintro ⟨H0, H1, H2, H3, H4, H5, HS0, HS1, HS2, Hq0, Hq1, Hq2, Hh0, ⟨%W', HW'⟩⟩
  isplitl [HS0 HS1 HS2 Hg Hq0 Hq1 Hq2 Hh0]
  · isplitl [HS0 HS1 HS2]
    · isplitl [HS0]; · iexact HS0
      isplitl [HS1]; · iexact HS1
      iexact HS2
    isplitl [Hg]
    · iexact Hg
    isplitl [Hq0 Hq1 Hq2]
    · isplitl [Hq0]; · iexact Hq0
      isplitl [Hq1]; · iexact Hq1
      iexact Hq2
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body table's row is the body at point `t`. -/
theorem defs₀_row (t : Fin cfg0.N) :
    defs₀ (F := F) .tc cfg0.body (cfg0.bodyArgs t (cfg0.slots t)) = bodyAt0 t := by
  unfold defs₀; rw [Defs.onTc_tc]

/-- The second point writes the index block back. -/
theorem flush5_last : (cfg0.win 5).flush t0_1 = true := (flush0_5 t0_1).mpr (by decide)

/-- The body's obligation at both points. -/
theorem body_obligation (c : Dev nD) : BodyObligation (dats (F := F) m 0 c) (defs₀ (F := F)) Variants.none () Set.univ := fun t => by
  rw [bigSep_W0, bigSep_W0, defs₀_row]
  rcases fin_N0 t with rfl | rfl
  · have h5 := live5_first
    rw [show cfg0.idle 5 (cfg0.grid.coords t0_0) = false from h5]
    exact triple_restated (sound_first m c) rfl .rfl fun _ => .rfl
  · rw [show cfg0.idle 5 (cfg0.grid.coords t0_1) = true from idle5_last, flush5_last]
    exact triple_restated (sound_last m c) rfl .rfl fun _ => .rfl

/-! ## The run -/

set_option backward.isDefEq.respectTransparency.types false in
/-- The launch terminates with every array of the pipeline as the points left it, every other buffer as the
    region found it, and every semaphore counter at zero. -/
theorem run_named : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := entry m Variants.none) (hA := A_eq m)
    (hin := fun c => by rw [Phi_first])
    (hout := fun c => by rw [Phi_later m c (Fin.last cfg0.N) (by decide)]; exact carried_forget m c)

end Cert.KernelIdeal.Hand

end
-- ==== Proof.Hand.Arrays.lean ====
module

public import proofs.«01_k».proof.Proof.Hand.Run
public import Idealize.ShloMosaic.Lib.Pipeline.ValueKit
public import Idealize.ShloMosaic.Lib.ViewIndex

/-!
What the two result arrays hold after the launch, as functions of the arguments.

The output is written in two blocks of 512 columns, one per grid point; the pair of experts is one block,
written once. Every input window but the biases' is the whole of its array.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-- Column `k` of column block `n`, -/
def colAt (n : Fin 2) (k : Fin 512) : Fin 1024 := ⟨512 * n.val + k.val, by have := n.isLt; have := k.isLt; omega⟩
/-- the column block that column `i` lies in, and its place there. -/
def colBlk (i : Fin 1024) : Fin 2 := ⟨i.val / 512, by have := i.isLt; omega⟩
def colIn (i : Fin 1024) : Fin 512 := ⟨i.val % 512, by omega⟩
theorem colBlk_colAt (n : Fin 2) (k : Fin 512) : colBlk (colAt n k) = n :=
  Fin.ext (by have := k.isLt; show (512 * n.val + k.val) / 512 = n.val; omega)
theorem colIn_colAt (n : Fin 2) (k : Fin 512) : colIn (colAt n k) = k :=
  Fin.ext (by have := k.isLt; show (512 * n.val + k.val) % 512 = k.val; omega)

/-- Where an index of the biases' block, and of the output's, lies in its array. -/
def placeB (n : Fin 2) (j : S8x512.Idx) : S8x1024.Idx := ValueIdx.ix2 (j 0) (colAt n (j 1))
def placeO (n : Fin 2) (j : S2048x512.Idx) : S2048x1024.Idx := ValueIdx.ix2 (j 0) (colAt n (j 1))

/-- The biases' block at column block `n`. -/
def bBlk (n : Fin 2) (b : Vec F S8x1024 .f32) : Vec F S8x512 .f32 := fun j => b (placeB n j)

/-- The output array: at a column, the block that the column lies in. -/
def outArr (x : Vec F S2048x1024 .f32) (wg : Vec F S1024x8 .f32) (bg : Vec F S1x8 .f32) (W : Vec F S8x1024x1024 .f32)
    (b : Vec F S8x1024 .f32) : Vec F S2048x1024 .f32 :=
  fun i => blockOut (gateComb x wg bg) (k0_pay15 x) (bBlk (colBlk (i 1)) b) (wBlk (colBlk (i 1)) W) (ValueIdx.ix2 (i 0 : Fin 2048) (colIn (i 1)))

/-- At a place of column block `n` the output array is that block there. -/
theorem outArr_placeO (x : Vec F S2048x1024 .f32) (wg : Vec F S1024x8 .f32) (bg : Vec F S1x8 .f32) (W : Vec F S8x1024x1024 .f32)
    (b : Vec F S8x1024 .f32) (n : Fin 2) (y : S2048x512.Idx) :
    outArr x wg bg W b (placeO n y) = blockOut (gateComb x wg bg) (k0_pay15 x) (bBlk n b) (wBlk n W) y := by
  have key : ∀ (p : Fin 2048) (k : Fin 512),
      blockOut (gateComb x wg bg) (k0_pay15 x) (bBlk (colBlk (colAt n k)) b) (wBlk (colBlk (colAt n k)) W) (ValueIdx.ix2 p (colIn (colAt n k)))
        = blockOut (gateComb x wg bg) (k0_pay15 x) (bBlk n b) (wBlk n W) (ValueIdx.ix2 p k) :=
    fun p k => by rw [colBlk_colAt, colIn_colAt]
  have hi : (ValueIdx.ix2 (y 0) (y 1) : S2048x512.Idx) = y := by
    funext a; match a with
    | ⟨0, _⟩ => rfl
    | ⟨1, _⟩ => rfl
  exact (key (y 0) (y 1)).trans (congrArg _ hi)

/-! ## The windows' block indices -/

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = t.val := (by decide +kernel : ∀ t : Fin grid0.N, _)
theorem index4 : ∀ t : Fin cfg0.N, win0_4.index t (0 : Fin 2) = 0 ∧ win0_4.index t (1 : Fin 2) = t.val := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem coord0 : ∀ t : Fin cfg0.N, (grid0.coords t 0).val = t.val := (by decide +kernel : ∀ t : Fin grid0.N, _)

/-- An index of the tokens' block is the same index of the array; likewise the gate's matrix, the gate's
    bias and the pair of experts. -/
theorem emb0 (t : Fin cfg0.N) (j : S2048x1024.Idx) : ((cfg0.win 0).blk t).view.emb j = j := by
  obtain ⟨e0, e1⟩ := index0 t
  funext a; apply Fin.ext
  match a with
  | ⟨0, _⟩ => show win0_0.index t (0 : Fin 2) * 2048 + 1 * (j 0).val = (j 0).val; omega
  | ⟨1, _⟩ => show win0_0.index t (1 : Fin 2) * 1024 + 1 * (j 1).val = (j 1).val; omega
theorem emb1 (t : Fin cfg0.N) (j : S1024x8.Idx) : ((cfg0.win 1).blk t).view.emb j = j := by
  obtain ⟨e0, e1⟩ := index1 t
  funext a; apply Fin.ext
  match a with
  | ⟨0, _⟩ => show win0_1.index t (0 : Fin 2) * 1024 + 1 * (j 0).val = (j 0).val; omega
  | ⟨1, _⟩ => show win0_1.index t (1 : Fin 2) * 8 + 1 * (j 1).val = (j 1).val; omega
theorem emb2 (t : Fin cfg0.N) (j : S1x8.Idx) : ((cfg0.win 2).blk t).view.emb j = j := by
  obtain ⟨e0, e1⟩ := index2 t
  funext a; apply Fin.ext
  match a with
  | ⟨0, _⟩ => show win0_2.index t (0 : Fin 2) * 1 + 1 * (j 0).val = (j 0).val; omega
  | ⟨1, _⟩ => show win0_2.index t (1 : Fin 2) * 8 + 1 * (j 1).val = (j 1).val; omega
theorem emb5 (t : Fin cfg0.N) (j : S2048x2.Idx) : ((cfg0.win 5).blk t).view.emb j = j := by
  obtain ⟨e0, e1⟩ := index5 t
  funext a; apply Fin.ext
  match a with
  | ⟨0, _⟩ => show win0_5.index t (0 : Fin 2) * 2048 + 1 * (j 0).val = (j 0).val; omega
  | ⟨1, _⟩ => show win0_5.index t (1 : Fin 2) * 2 + 1 * (j 1).val = (j 1).val; omega

/-- A column of the biases' block at point `t` is column `512 t` on of the array, and a column of the output's. -/
theorem emb3 (t : Fin cfg0.N) (j : S8x512.Idx) : ((cfg0.win 3).blk t).view.emb j = placeB (grid0.coords t 0) j := by
  obtain ⟨e0, e1⟩ := index3 t
  have e := coord0 t
  funext a; apply Fin.ext
  match a with
  | ⟨0, _⟩ => show win0_3.index t (0 : Fin 2) * 8 + 1 * (j 0).val = (j 0).val; omega
  | ⟨1, _⟩ => show win0_3.index t (1 : Fin 2) * 512 + 1 * (j 1).val = 512 * (grid0.coords t 0).val + (j 1).val; omega
theorem emb4 (t : Fin cfg0.N) (j : S2048x512.Idx) : ((cfg0.win 4).blk t).view.emb j = placeO (grid0.coords t 0) j := by
  obtain ⟨e0, e1⟩ := index4 t
  have e := coord0 t
  funext a; apply Fin.ext
  match a with
  | ⟨0, _⟩ => show win0_4.index t (0 : Fin 2) * 2048 + 1 * (j 0).val = (j 0).val; omega
  | ⟨1, _⟩ => show win0_4.index t (1 : Fin 2) * 512 + 1 * (j 1).val = 512 * (grid0.coords t 0).val + (j 1).val; omega

/-! ## The input blocks -/

theorem iblk0_eq (c : Dev nD) (t : Fin cfg0.N) : iblk m c 0 t = m ((c : Thread nD τ).loc main_arg0) := by
  rw [← V_main_arg0 m c]
  funext j; show V m c main_arg0 (((cfg0.win 0).blk t).view.emb j) = V m c main_arg0 j; rw [emb0]
theorem iblk1_eq (c : Dev nD) (t : Fin cfg0.N) : iblk m c 1 t = m ((c : Thread nD τ).loc main_arg1) := by
  rw [← V_main_arg1 m c]
  funext j; show V m c main_arg1 (((cfg0.win 1).blk t).view.emb j) = V m c main_arg1 j; rw [emb1]
/-- The gate's bias reaches the kernel as a row. -/
theorem iblk2_eq (c : Dev nD) (t : Fin cfg0.N) : iblk m c 2 t
    = (shapeCast S1x8 (m ((c : Thread nD τ).loc main_arg2) : Vec F S8 .f32) shapeCasts_S8_S1x8 : Vec F S1x8 .f32) := by
  have h : V m c main_v0 = (shapeCast S1x8 (m ((c : Thread nD τ).loc main_arg2) : Vec F S8 .f32) shapeCasts_S8_S1x8 : Vec F S1x8 .f32) := by
    entry_read; rfl
  rw [← h]
  funext j; show V m c main_v0 (((cfg0.win 2).blk t).view.emb j) = V m c main_v0 j; rw [emb2]
theorem iblk3_eq (c : Dev nD) (t : Fin cfg0.N) : iblk m c 3 t = bBlk (grid0.coords t 0) (m ((c : Thread nD τ).loc main_arg4)) := by
  rw [← V_main_arg4 m c]
  funext j; show V m c main_arg4 (((cfg0.win 3).blk t).view.emb j) = _; rw [emb3]; rfl

/-- The output array of core `c`. -/
def outOf (c : Dev nD) : Vec F S2048x1024 .f32 :=
  outArr (m ((c : Thread nD τ).loc main_arg0)) (m ((c : Thread nD τ).loc main_arg1))
    (shapeCast S1x8 (m ((c : Thread nD τ).loc main_arg2) : Vec F S8 .f32) shapeCasts_S8_S1x8)
    (m ((c : Thread nD τ).loc main_arg3)) (m ((c : Thread nD τ).loc main_arg4))
/-- The pairs of experts of core `c`. -/
def idxOf (c : Dev nD) : Vec F S2048x2 .i32 :=
  gateIdx (m ((c : Thread nD τ).loc main_arg0)) (m ((c : Thread nD τ).loc main_arg1))
    (shapeCast S1x8 (m ((c : Thread nD τ).loc main_arg2) : Vec F S8 .f32) shapeCasts_S8_S1x8)

/-! ## The result arrays -/

/-- What the point writes back is the output array at the block's places. -/
theorem outAt_apply (c : Dev nD) (t : Fin cfg0.N) (y : S2048x512.Idx) : outAt m c t y = outOf m c (((cfg0.win 4).blk t).view.emb y) := by
  rw [emb4]
  have h3 : (hbM0_0.view.read (Elt F) (V m c main_arg3) : Vec F S8x1024x1024 .f32) = m ((c : Thread nD τ).loc main_arg3) := by
    rw [V_main_arg3]; rfl
  unfold outAt combAt tokAt outOf
  rw [iblk0_eq, iblk1_eq, iblk2_eq, iblk3_eq, h3]
  exact (outArr_placeO _ _ _ _ _ (grid0.coords t 0) y).symm

/-- The output array after the run. -/
theorem final4 (c : Dev nD) : (dats m 0 c).arrAt 4 cfg0.N = outOf m c := by
  refine (dats m 0 c).arrAt_eq_of_covers 4 _ (by decide +kernel) fun t hf y => ?_
  blk_simp; rw [after0_4]
  exact outAt_apply m c t _

/-- The pairs of experts after the run. -/
theorem final5 (c : Dev nD) : (dats m 0 c).arrAt 5 cfg0.N = idxOf m c := by
  refine (dats m 0 c).arrAt_eq_of_covers 5 _ (by decide +kernel) fun t hf y => ?_
  blk_simp; rw [after0_5]
  unfold idxAt idxOf
  rw [iblk0_eq, iblk1_eq, iblk2_eq]
  exact congrArg _ (emb5 t _).symm

/-- The launch from any memory: both result arrays are the named functions of the arguments, the arguments
    are unchanged, and every semaphore counter ends at zero. -/
theorem run_values : θ_run defs (onTc (τ := τ) (main (F := F))) ⟨m, fun _ => 0, ρ⟩ (fun r => (∀ c : Dev nD,
      r.2.mem ((c.tc : Thread nD τ).loc main_v1_0) = outOf m c
      ∧ r.2.mem ((c.tc : Thread nD τ).loc main_v1_1) = idxOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 4).trans (final4 m c), ((h.1 c).1 5).trans (final5 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩) (run_named m ρ)

end Cert.KernelIdeal.Hand

end
-- ==== Proof.Hand.Rows.lean ====
module

public import proofs.«01_k».proof.Proof.Hand.Values
public import Idealize.ShloMosaic.Lib.MatmulPlain
public import Idealize.ShloMosaic.Lib.ValueLayoutCasts
public import Idealize.ShloMosaic.Lib.IdealHost
public import Idealize.ShloMosaic.Lib.WordCmp

/-!
The operations of the body read at a row and a column, over the extended reals: the reductions along a
row of eight, the broadcasts of a column and of a row, the three products.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- The `e`-th entry that is reduced away from row `p`. -/
theorem lift_row (p : Fin 2048) (e : Fin 8) : reduces_S2048x8_S2048.lift (ix1 p) e = ix2 p e :=
  funext fun a => Fin.ext (by match a with | ⟨0, _⟩ => rfl | ⟨1, _⟩ => rfl)

/-- The word for `-∞` is `-∞`. -/
theorem negInf_word : Ideal.ofBits .f32 0xFF800000#32 = ⊥ := by
  simp [Ideal.ofBits, Ideal.ieee]

/-- A row's maximum is the fold of `max` over its eight entries, from `-∞`. -/
theorem rowMax_apply (x : FVec Ideal S2048x8 .f32) (p : Fin 2048) :
    multiReduction .maximumf [1] S2048 x 0xFF800000#32 reduces_S2048x8_S2048 (.inl rfl) rfl (ix1 p)
      = (Finset.univ : Finset (Fin 8)).fold max (⊥ : EReal) fun e => x (ix2 p e) := by
  refine (Ideal.multiReduction_maximumf_single x _ reduces_S2048x8_S2048 _ _ (ix1 p)).trans ?_
  have h : (x ∘ reduces_S2048x8_S2048.lift (ix1 p)) = fun e : Fin 8 => x (ix2 p e) :=
    funext fun e => congrArg x (lift_row p e)
  rw [h]
  exact congrArg (fun b => (Finset.univ : Finset (Fin 8)).fold max b fun e => x (ix2 p e)) negInf_word

/-- A row's least word is the fold of the signed minimum over its eight entries, from the greatest word. -/
theorem rowMin_apply (x : IVec S2048x8 32) (p : Fin 2048) :
    multiReductionI .minsi [1] S2048 x 2147483647#32 reduces_S2048x8_S2048 rfl (ix1 p)
      = (Finset.univ : Finset (Fin 8)).fold IKind.minsi.op 2147483647#32 fun e => x (ix2 p e) := by
  refine (multiReductionI_eq_fold .minsi x _ reduces_S2048x8_S2048 _ (ix1 p)).trans ?_
  rw [Shape.Reduces.fold_filter_drop_single]
  have h : (x ∘ reduces_S2048x8_S2048.lift (ix1 p)) = fun e : Fin 8 => x (ix2 p e) :=
    funext fun e => congrArg x (lift_row p e)
  rw [h]
  rfl

/-- A row's sum is the sum of its eight entries. -/
theorem rowSum_apply (x : FVec Ideal S2048x8 .f32) (p : Fin 2048) :
    multiReduction .add [1] S2048 x 0x00000000#32 reduces_S2048x8_S2048 (.inl rfl) rfl (ix1 p)
      = ∑ e : Fin 8, x (ix2 p e) := by
  refine (Ideal.multiReduction_add_single x _ reduces_S2048x8_S2048 _ _ (ix1 p)).trans ?_
  exact Finset.sum_congr rfl fun e _ => congrArg x (lift_row p e)

/-- The position words along a row of eight. -/
theorem position_apply (p : Fin 2048) (e : Fin 8) :
    iota .tc S2048x8 32 [1] iota_S2048x8_d1_w32 (ix2 p e) = BitVec.ofNat 32 e.val :=
  iota_single_apply _ _ _ _ _ _

/-- A column broadcast along rows reads the column's entry of the row. -/
theorem column_apply {α : Type} {n : ℕ} (c : S2048x1.Idx → α) (h : S2048x1.Broadcasts ⟨2, ![2048, n]⟩) (p : Fin 2048) (q : Fin n) :
    broadcastTo ⟨2, ![2048, n]⟩ c h (ix2 p q) = c (ix2 p (0 : Fin 1)) := by
  refine broadcastTo_apply c h (ix2 p q) (ix2 p (0 : Fin 1)) fun a => ?_
  match a with
  | ⟨0, _⟩ => rfl
  | ⟨1, _⟩ => rfl

/-- The gate's product at a token and an expert. -/
theorem gateDot_apply (x : FVec Ideal S2048x1024 .f32) (w : FVec Ideal S1024x8 .f32) (p : Fin 2048) (e : Fin 8) :
    matmul dot_S2048x1024_S1024x8_S2048x8_1_0_0_1_n_n none x w (constant S2048x8 .f32 0x00000000#32) (ix2 p e)
      = ∑ k : Fin 1024, x (ix2 p k) * w (ix2 k e) := by
  refine (Ideal.matmul_plain_apply (M := 2048) (K := 1024) (N := 8) none x w _ p e).trans ?_
  rw [constant_apply, Ideal.ofBits_zero_f32, zero_add]

/-- The product of the weights with the biases at a token and a column. -/
theorem biasDot_apply (x : FVec Ideal S2048x8 .f32) (w : FVec Ideal S8x512 .f32) (p : Fin 2048) (q : Fin 512) :
    matmul dot_S2048x8_S8x512_S2048x512_1_0_0_1_n_n none x w (constant S2048x512 .f32 0x00000000#32) (ix2 p q)
      = ∑ e : Fin 8, x (ix2 p e) * w (ix2 e q) := by
  refine (Ideal.matmul_plain_apply (M := 2048) (K := 8) (N := 512) none x w _ p q).trans ?_
  rw [constant_apply, Ideal.ofBits_zero_f32, zero_add]

/-- One expert's product at a token and a column. -/
theorem expertDot_apply (x : FVec Ideal S2048x1024 .bf16) (w : FVec Ideal S1024x512 .bf16) (p : Fin 2048) (q : Fin 512) :
    matmul dot_S2048x1024_S1024x512_S2048x512_1_0_0_1_n_n none x w (constant S2048x512 .f32 0x00000000#32) (ix2 p q)
      = ∑ k : Fin 1024, x (ix2 p k) * w (ix2 k q) := by
  refine (Ideal.matmul_plain_apply (M := 2048) (K := 1024) (N := 512) none x w _ p q).trans ?_
  rw [constant_apply, Ideal.ofBits_zero_f32, zero_add]

/-- Two position words below eight are equal only for equal positions. -/
theorem position_inj (e i : Fin 8) : (BitVec.ofNat 32 e.val = BitVec.ofNat 32 i.val) ↔ e = i := by
  revert e i; decide

end Cert.KernelIdeal.Hand
-- ==== Proof.Hand.Block.lean ====
module

public import proofs.«01_k».proof.Proof.Hand.Rows
public import proofs.«01_k».proof.Proof.Hand.Arrays

/-!
What the expert loop leaves over the extended reals: the weighted biases plus the weighted products,
summed over the eight experts.
-/

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx hiding ix2 ix3

/-- The mask of one expert, as a number: one at its position and zero elsewhere. -/
theorem mask_apply (p : Fin 2048) (e i : Fin 8) :
    (sitofp .f32 (extui 32 (cmpi .eq (iota .tc S2048x8 32 [1] iota_S2048x8_d1_w32) (broadcast S2048x8 (BitVec.ofNat 32 i.val))) natLt_1_32)
      : FVec Ideal S2048x8 .f32) (ValueIdx.ix2 p e) = if e = i then (1 : EReal) else 0 := by
  have hw : cmpi .eq (iota .tc S2048x8 32 [1] iota_S2048x8_d1_w32) (broadcast S2048x8 (BitVec.ofNat 32 i.val)) (ValueIdx.ix2 p e)
      = BitVec.ofBool (decide (e = i)) := by
    show IntOp.cmpi .eq _ _ = _
    rw [WordCmp.cmpi_eq_eq, position_apply]
    congr 1
    exact decide_eq_decide.mpr (position_inj e i)
  show ((((extui 32 (cmpi .eq (iota .tc S2048x8 32 [1] iota_S2048x8_d1_w32) (broadcast S2048x8 (BitVec.ofNat 32 i.val))) natLt_1_32)
      (ValueIdx.ix2 p e)).toInt : ℝ) : EReal) = _
  rw [extui_apply, hw]
  by_cases h : e = i
  · simp [h]
  · simp [h]

/-- The masked sum along a row picks one expert's weight out. -/
theorem coef_apply (comb : Vec Ideal S2048x8 .f32) (i : Fin 8) (p : Fin 2048) :
    coef (F := Ideal) comb (BitVec.ofNat 32 i.val) (ValueIdx.ix2 p (0 : Fin 1)) = comb (ValueIdx.ix2 p i) := by
  unfold coef
  refine (shapeCast_a_a1_apply _ shapeCasts_S2048_S2048x1 p (0 : Fin 1)).trans ((rowSum_apply _ p).trans ?_)
  have h : ∀ e : Fin 8, mulf (F := Ideal) comb (sitofp .f32 (extui 32 (cmpi .eq (iota .tc S2048x8 32 [1] iota_S2048x8_d1_w32)
      (broadcast S2048x8 (BitVec.ofNat 32 i.val))) natLt_1_32)) (ValueIdx.ix2 p e)
      = if e = i then (comb (ValueIdx.ix2 p e) : EReal) else 0 := by
    intro e
    refine (congrArg (fun z : EReal => (comb (ValueIdx.ix2 p e) : EReal) * z) (mask_apply p e i)).trans ?_
    by_cases he : e = i <;> simp [he]
  rw [Finset.sum_congr rfl fun e _ => h e]
  simp

/-- One expert's addend at a token and a column. -/
theorem expertTerm_apply (comb : Vec Ideal S2048x8 .f32) (xb : Vec Ideal S2048x1024 .bf16) (i : Fin 8)
    (w : Vec Ideal S1x1024x512 .f32) (p : Fin 2048) (q : Fin 512) :
    expertTerm (F := Ideal) comb xb (BitVec.ofNat 32 i.val) w (ValueIdx.ix2 p q)
      = (comb (ValueIdx.ix2 p i) : EReal) * ∑ k : Fin 1024, (xb (ValueIdx.ix2 p k) : EReal) * w (ValueIdx.ix3 (0 : Fin 1) k q) := by
  unfold expertTerm
  refine congrArg₂ (fun a b : EReal => a * b) ?_ ?_
  · exact (column_apply _ broadcasts_S2048x1_S2048x512 p q).trans (coef_apply comb i p)
  · refine (expertDot_apply xb _ p q).trans (Finset.sum_congr rfl fun k _ => ?_)
    refine congrArg (fun z : EReal => (xb (ValueIdx.ix2 p k) : EReal) * z) ?_
    exact shapeCast_1ab_ab_apply w shapeCasts_S1x1024x512_S1024x512 k q

/-- A point's block at a token and a column: the sum of the weighted biases plus the sum of the weighted products. -/
theorem blockOut_apply (comb : Vec Ideal S2048x8 .f32) (xb : Vec Ideal S2048x1024 .bf16) (bb : Vec Ideal S8x512 .f32)
    (w : Fin 8 → Vec Ideal S1x1024x512 .f32) (p : Fin 2048) (q : Fin 512) :
    blockOut (F := Ideal) comb xb bb w (ValueIdx.ix2 p q)
      = (∑ e : Fin 8, (comb (ValueIdx.ix2 p e) : EReal) * bb (ValueIdx.ix2 e q))
        + ∑ e : Fin 8, (comb (ValueIdx.ix2 p e) : EReal) * ∑ k : Fin 1024, (xb (ValueIdx.ix2 p k) : EReal) * w e (ValueIdx.ix3 (0 : Fin 1) k q) := by
  have hb := biasDot_apply comb bb p q
  have ht := fun e : Fin 8 => expertTerm_apply comb xb e (w e) p q
  rw [← hb, ← Finset.sum_congr rfl fun e _ => ht e]
  simp only [Fin.sum_univ_eight]
  unfold blockOut
  simp only [← add_assoc]
  rfl

/-- The output array at a token and a column, from the arguments and the weights. -/
theorem outArr_apply (x : Vec Ideal S2048x1024 .f32) (wg : Vec Ideal S1024x8 .f32) (bg : Vec Ideal S1x8 .f32)
    (W : Vec Ideal S8x1024x1024 .f32) (b : Vec Ideal S8x1024 .f32) (p : Fin 2048) (c : Fin 1024) :
    outArr (F := Ideal) x wg bg W b (ValueIdx.ix2 p c)
      = (∑ e : Fin 8, (gateComb x wg bg (ValueIdx.ix2 p e) : EReal) * b (ValueIdx.ix2 e c))
        + ∑ e : Fin 8, (gateComb x wg bg (ValueIdx.ix2 p e) : EReal) * ∑ k : Fin 1024, (x (ValueIdx.ix2 p k) : EReal) * W (ValueIdx.ix3 e k c) := by
  have hc : 512 * (c.val / 512) + c.val % 512 = c.val := by omega
  have hb : ∀ e : Fin 8, bBlk (colBlk c) b (ValueIdx.ix2 e (colIn c)) = b (ValueIdx.ix2 e c) := fun e =>
    congrArg b (funext fun a => Fin.ext (by
      match a with
      | ⟨0, _⟩ => rfl
      | ⟨1, _⟩ => exact hc))
  have hw : ∀ (e : Fin 8) (k : Fin 1024), wBlk (colBlk c) W e (ValueIdx.ix3 (0 : Fin 1) k (colIn c)) = W (ValueIdx.ix3 e k c) := fun e k =>
    congrArg W (funext fun a => Fin.ext (by
      match a with
      | ⟨0, _⟩ => rfl
      | ⟨1, _⟩ => rfl
      | ⟨2, _⟩ => exact hc))
  have hx : ∀ k : Fin 1024, k0_pay15 (F := Ideal) x (ValueIdx.ix2 p k) = x (ValueIdx.ix2 p k) := fun k => by
    unfold k0_pay15
    rw [shapeCast_self]
    rfl
  refine (blockOut_apply (gateComb x wg bg) (k0_pay15 x) (bBlk (colBlk c) b) (wBlk (colBlk c) W) p (colIn c)).trans ?_
  generalize gateComb (F := Ideal) x wg bg = comb
  simp only [hb, hw, hx]

end Cert.KernelIdeal.Hand
-- ==== Proof.Hand.TopTwo.lean ====
module

public import Idealize.ShloMosaic.Lib.SortPrefix
public import Idealize.ShloMosaic.Lib.SortNet.Extract
public import Idealize.ShloMosaic.PureOps.Ideal.Laws

/-!
The two largest of eight numbers and where they stand, ties going to the lower position.

Both programs choose experts this way: one by folding maxima and minima of positions, the other by
the head of a stable sort. Each is shown here to find the pair that `IsTop` describes.
-/

@[expose] public section

noncomputable section

namespace Cert.KernelIdeal.Hand

open Idealize.ShloMosaic

/-- `i` is the first position at which `v` takes its largest value. -/
def IsFirst (v : Fin 8 → EReal) (i : Fin 8) : Prop := (∀ e, v e ≤ v i) ∧ ∀ e, e < i → v e < v i

/-- `v` with position `i` taken out of the contest. -/
def without (v : Fin 8 → EReal) (i e : Fin 8) : EReal := if e = i then ⊥ else v e

/-- `i` and `j` are the positions of the largest and the second largest of `v`. -/
structure IsTop (v : Fin 8 → EReal) (i j : Fin 8) : Prop where
  first : IsFirst v i
  second : IsFirst (without v i) j
  ne : j ≠ i

/-- Eight numbers have a first position of their largest. -/
theorem exists_isFirst (v : Fin 8 → EReal) : ∃ i, IsFirst v i := by
  obtain ⟨m, -, hm⟩ := Finset.exists_max_image Finset.univ v ⟨0, Finset.mem_univ _⟩
  have hne : (Finset.univ.filter fun e => v e = v m).Nonempty := ⟨m, by simp⟩
  have hmem := Finset.min'_mem _ hne
  refine ⟨(Finset.univ.filter fun e => v e = v m).min' hne, ?_, ?_⟩
  · intro e
    rw [(Finset.mem_filter.mp hmem).2]
    exact hm e (Finset.mem_univ e)
  · intro e he
    rw [(Finset.mem_filter.mp hmem).2]
    refine lt_of_le_of_ne (hm e (Finset.mem_univ e)) fun h => ?_
    exact absurd (Finset.min'_le _ e (by simp [h])) (not_le.mpr he)

/-- Eight numbers above `-∞` have a largest and a second largest. -/
theorem exists_isTop (v : Fin 8 → EReal) (hv : ∀ e, v e ≠ ⊥) : ∃ i j, IsTop v i j := by
  obtain ⟨i, hi⟩ := exists_isFirst v
  obtain ⟨j, hj⟩ := exists_isFirst (without v i)
  refine ⟨i, j, hi, hj, fun h => ?_⟩
  obtain ⟨e, he⟩ : ∃ e : Fin 8, e ≠ i := exists_ne i
  have h1 := hj.1 e
  rw [h] at h1
  simp only [without, if_neg he, if_true, le_bot_iff] at h1
  exact hv e h1

namespace IsTop

variable {v : Fin 8 → EReal} {i j : Fin 8}

/-- Away from the first position, the second one's value is the largest. -/
theorem le_second (h : IsTop v i j) (e : Fin 8) (he : e ≠ i) : v e ≤ v j := by
  have := h.second.1 e
  simpa only [without, if_neg he, if_neg h.ne] using this

/-- A position other than the first and before the second holds a smaller value than the second. -/
theorem lt_second (h : IsTop v i j) (e : Fin 8) (he : e ≠ i) (hj : e < j) : v e < v j := by
  have := h.second.2 e hj
  simpa only [without, if_neg he, if_neg h.ne] using this

/-- The value left at the second position is its own. -/
theorem without_second (h : IsTop v i j) : without v i j = v j := if_neg h.ne

end IsTop

/-- The maximum of eight numbers, folded from `-∞`, is the value at the first position of the largest. -/
theorem fold_max_of_isFirst {v : Fin 8 → EReal} {i : Fin 8} (h : IsFirst v i) :
    (Finset.univ : Finset (Fin 8)).fold max ⊥ v = v i := by
  apply le_antisymm
  · exact (Finset.fold_max_le _).mpr ⟨bot_le, fun e _ => h.1 e⟩
  · exact (Finset.le_fold_max _).mpr (Or.inr ⟨i, Finset.mem_univ i, le_rfl⟩)

/-- The least position word among the positions where the largest value stands, 8 elsewhere, is the first such position. -/
theorem fold_min_of_isFirst {v : Fin 8 → EReal} {i : Fin 8} (h : IsFirst v i) (w : Fin 8 → BitVec 32)
    (hw : ∀ e, w e = if v e = v i then BitVec.ofNat 32 e.val else 8#32) :
    (Finset.univ : Finset (Fin 8)).fold IKind.minsi.op 2147483647#32 w = BitVec.ofNat 32 i.val := by
  have hom := Finset.fold_hom (s := (Finset.univ : Finset (Fin 8))) (f := w) (b := 2147483647#32)
    (op := IKind.minsi.op) (op' := min) (m := BitVec.toInt) (fun a b => SortNet.toInt_minsi a b)
  have small : ∀ e : Fin 8, (BitVec.ofNat 32 e.val).toInt = (e.val : Int) := by decide
  have read : ∀ e, (w e).toInt = if v e = v i then (e.val : Int) else 8 := by
    intro e
    rw [hw e]
    split
    · exact small e
    · rfl
  apply BitVec.eq_of_toInt_eq
  rw [← hom, small i]
  apply le_antisymm
  · refine (Finset.fold_min_le _).mpr (Or.inr ⟨i, Finset.mem_univ i, ?_⟩)
    rw [read i, if_pos rfl]
  · refine (Finset.le_fold_min _).mpr ⟨?_, fun e _ => ?_⟩
    · have := i.isLt
      show (i.val : Int) ≤ 2147483647
      omega
    · rw [read e]
      split
      · rename_i he
        have : ¬ e < i := fun hlt => absurd he (ne_of_lt (h.2 e hlt))
        have : i.val ≤ e.val := not_lt.mp this
        exact_mod_cast this
      · have := i.isLt
        omega

/-! ## The head of the stable sort -/

/-- Descending by value, equal values by position. -/
def ranked (v : Fin 8 → EReal) (k k' : Fin 8) : Bool :=
  decide (v k' < v k) || (decide (v k = v k') && decide (k < k'))

theorem ranked_strict (v : Fin 8 → EReal) : StrictTotalBefore (ranked v) :=
  StrictTotalBefore.of_key_then_position (n := 8) (key := v) (lt := fun a b => decide (b < a))
    (fun a => by simp) (fun a b c hab hbc => by simp only [decide_eq_true_eq] at *; exact hbc.trans hab)
    (fun a b => by
      rcases lt_trichotomy a b with h | h | h
      · exact Or.inr (Or.inr (by simpa using h))
      · exact Or.inr (Or.inl h)
      · exact Or.inl (by simpa using h))

/-- Into a list all of whose members satisfy it, insertion looks at the order only there. -/
theorem insertBefore_agree {ι : Type} (B B' : ι → ι → Bool) (a : ι) :
    ∀ l : List ι, (∀ b ∈ l, B b a = B' b a) → insertBefore B a l = insertBefore B' a l
  | [], _ => rfl
  | b :: l, h => by
    unfold insertBefore
    rw [h b (by simp), insertBefore_agree B B' a l fun c hc => h c (by simp [hc])]

/-- A list whose later members compare alike with its earlier ones is sorted alike by both orders. -/
theorem stableSort_agree {ι : Type} (B B' : ι → ι → Bool) :
    ∀ l : List ι, l.Pairwise (fun a b => B b a = B' b a) → stableSort B l = stableSort B' l
  | [], _ => rfl
  | a :: l, h => by
    rw [List.pairwise_cons] at h
    unfold stableSort
    rw [stableSort_agree B B' l h.2]
    exact insertBefore_agree B B' a _ fun b hb => h.1 b ((perm_stableSort B' l).mem_iff.mp hb)

/-- A stable sort by value alone keeps equal values in position order, so it sorts as `ranked` does. -/
theorem sortedFrom_ranked (v : Fin 8 → EReal) (k : Fin 8) :
    sortedFrom (fun a b => decide (v b < v a)) k = sortedFrom (ranked v) k := by
  have h : sortPositions 8 (fun a b => decide (v b < v a)) = sortPositions 8 (ranked v) := by
    unfold sortPositions
    refine stableSort_agree _ _ _ ((List.pairwise_lt_finRange 8).imp fun {a b} hab => ?_)
    simp [ranked, not_lt.mpr (le_of_lt hab)]
  unfold sortedFrom
  simp only [h, List.get_eq_getElem]
  rfl

/-- The stable descending sort of eight numbers begins with the largest and the second largest. -/
theorem sortedFrom_of_isTop {v : Fin 8 → EReal} {i j : Fin 8} (h : IsTop v i j) :
    sortedFrom (fun a b => decide (v b < v a)) 0 = i ∧ sortedFrom (fun a b => decide (v b < v a)) 1 = j := by
  have before_first : ∀ p, p ≠ i → ranked v p i = false := by
    intro p hp
    have h1 := h.first.1 p
    simp only [ranked, Bool.or_eq_false_iff, Bool.and_eq_false_iff, decide_eq_false_iff_not]
    refine ⟨not_lt.mpr h1, ?_⟩
    by_cases hlt : p < i
    · exact Or.inl (ne_of_lt (h.first.2 p hlt))
    · exact Or.inr hlt
  have before_second : ∀ p, p ≠ i → p ≠ j → ranked v p j = false := by
    intro p hp hq
    simp only [ranked, Bool.or_eq_false_iff, Bool.and_eq_false_iff, decide_eq_false_iff_not]
    refine ⟨not_lt.mpr (h.le_second p hp), ?_⟩
    by_cases hlt : p < j
    · exact Or.inl (ne_of_lt (h.lt_second p hp hlt))
    · exact Or.inr hlt
  have key := (ranked_strict v).sortedFrom_eq_of_prefix (k := 2) (by decide) ![i, j]
    (by
      intro a b hab
      fin_cases a <;> fin_cases b <;> simp_all [h.ne, h.ne.symm])
    (by
      intro a b hab
      fin_cases a <;> fin_cases b <;> first | exact absurd hab (by decide) | exact before_first j h.ne)
    (by
      intro a p hp
      have hi : p ≠ i := fun e => hp 0 e.symm
      have hj : p ≠ j := fun e => hp 1 e.symm
      fin_cases a
      · exact before_first p hi
      · exact before_second p hi hj)
  rw [sortedFrom_ranked, sortedFrom_ranked]
  exact ⟨key 0, key 1⟩

end Cert.KernelIdeal.Hand
-- ==== Proof.Hand.Gate.lean ====
module

public import proofs.«01_k».proof.Proof.Hand.Rows
public import proofs.«01_k».proof.Proof.Hand.TopTwo

/-!
What the gate computes over the extended reals: for each token the two experts whose logits are
largest, and the softmax of those two logits spread over the eight experts.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- Token `p`'s logits: its product with the gate's matrix, and the bias. -/
def logit (x : Vec Ideal S2048x1024 .f32) (wg : Vec Ideal S1024x8 .f32) (bg : Fin 8 → EReal) (p : Fin 2048) (e : Fin 8) : EReal :=
  (∑ k : Fin 1024, x (ix2 p k) * wg (ix2 k e)) + bg e

/-- The smaller of two exponentials, after the larger logit is subtracted. -/
def ratio (v : Fin 8 → EReal) (i j : Fin 8) : EReal := Ideal.exp (v j - v i)

/-- Expert `e`'s weight: the softmax of the two chosen logits where chosen, zero elsewhere. -/
def weight (v : Fin 8 → EReal) (i j e : Fin 8) : EReal :=
  (if e = i then Ideal.div 1 (1 + ratio v i j) else 0) + (if e = j then Ideal.div (ratio v i j) (1 + ratio v i j) else 0)

section

variable (x : Vec Ideal S2048x1024 .f32) (wg : Vec Ideal S1024x8 .f32) (bg : Vec Ideal S1x8 .f32)

/-- Token `p`'s logits, the bias given as a row. -/
def logitRow (p : Fin 2048) : Fin 8 → EReal := logit x wg (fun e => bg (ix2 (0 : Fin 1) e)) p

theorem logits_apply (p : Fin 2048) (e : Fin 8) : k0_pay2 (F := Ideal) x wg bg (ix2 p e) = logitRow x wg bg p e := by
  have h : broadcastTo S2048x8 (shapeCast S1x8 bg shapeCasts_S1x8_S1x8) broadcasts_S1x8_S2048x8 (ix2 p e)
      = bg (ix2 (0 : Fin 1) e) := by
    rw [shapeCast_self]
    exact broadcastTo_1b_ab_apply bg _ p e
  exact congrArg₂ (fun a b : EReal => a + b) (gateDot_apply x wg p e) h

variable {x wg bg} {p : Fin 2048} {i j : Fin 8}

/-- The first maximum is the logit of the first expert. -/
theorem top1_value (h : IsTop (logitRow x wg bg p) i j) :
    k0_pay3 (F := Ideal) x wg bg (ix2 p (0 : Fin 1)) = logitRow x wg bg p i := by
  unfold k0_pay3
  refine (shapeCast_a_a1_apply _ shapeCasts_S2048_S2048x1 p (0 : Fin 1)).trans ((rowMax_apply _ p).trans ?_)
  rw [← fold_max_of_isFirst h.first]
  exact congrArg (fun f => (Finset.univ : Finset (Fin 8)).fold max ⊥ f) (funext fun e => logits_apply x wg bg p e)

/-- Selecting positions where the value meets a bound, 8 elsewhere, at a row and a column. -/
theorem hits_apply (v : FVec Ideal S2048x8 .f32) (c : FVec Ideal S2048x1 .f32) (p : Fin 2048) (e : Fin 8) :
    select (cmpf .oeq v (broadcastTo S2048x8 c broadcasts_S2048x1_S2048x8)) (iota .tc S2048x8 32 [1] iota_S2048x8_d1_w32)
        (broadcast S2048x8 8#32) (ix2 p e)
      = if v (ix2 p e) = c (ix2 p (0 : Fin 1)) then BitVec.ofNat 32 e.val else 8#32 := by
  rw [select_apply, cmpf_apply, column_apply, position_apply, Ideal.cmpf_def]
  unfold Scalar.select Ideal.cmp
  by_cases h : v (ix2 p e) = c (ix2 p (0 : Fin 1)) <;> simp [h, broadcast]

/-- The first position word is the first expert's. -/
theorem top1_word (h : IsTop (logitRow x wg bg p) i j) :
    k0_pay4 (F := Ideal) x wg bg (ix2 p (0 : Fin 1)) = BitVec.ofNat 32 i.val := by
  unfold k0_pay4
  refine (shapeCast_a_a1_apply _ shapeCasts_S2048_S2048x1 p (0 : Fin 1)).trans ((rowMin_apply _ p).trans ?_)
  refine fold_min_of_isFirst h.first _ fun e => ?_
  rw [hits_apply, logits_apply, top1_value h]

/-- Whether a position is the one a column of words names. -/
theorem named_apply {α : Type} (c : IVec S2048x1 32) (a b : S2048x8.Idx → α) (p : Fin 2048) (e i : Fin 8)
    (hc : c (ix2 p (0 : Fin 1)) = BitVec.ofNat 32 i.val) :
    select (cmpi .eq (iota .tc S2048x8 32 [1] iota_S2048x8_d1_w32) (broadcastTo S2048x8 c broadcasts_S2048x1_S2048x8)) a b (ix2 p e)
      = if e = i then a (ix2 p e) else b (ix2 p e) := by
  have hw : cmpi .eq (iota .tc S2048x8 32 [1] iota_S2048x8_d1_w32) (broadcastTo S2048x8 c broadcasts_S2048x1_S2048x8) (ix2 p e)
      = BitVec.ofBool (decide (e = i)) := by
    show IntOp.cmpi .eq _ _ = _
    rw [WordCmp.cmpi_eq_eq, column_apply, position_apply, hc]
    congr 1
    exact decide_eq_decide.mpr (position_inj e i)
  rw [select_apply, hw]
  unfold Scalar.select
  by_cases h : e = i <;> simp [h]

/-- The second contest's entries: the logits with the first expert's put at `-∞`. -/
theorem masked_apply (h : IsTop (logitRow x wg bg p) i j) (e : Fin 8) :
    k0_pay5 (F := Ideal) x wg bg (ix2 p e) = without (logitRow x wg bg p) i e := by
  refine (named_apply (k0_pay4 (F := Ideal) x wg bg) _ (k0_pay2 (F := Ideal) x wg bg) p e i (top1_word h)).trans ?_
  unfold without
  split
  · exact negInf_word
  · exact logits_apply x wg bg p e

/-- The second maximum is the logit of the second expert. -/
theorem top2_value (h : IsTop (logitRow x wg bg p) i j) :
    k0_pay6 (F := Ideal) x wg bg (ix2 p (0 : Fin 1)) = logitRow x wg bg p j := by
  unfold k0_pay6
  refine (shapeCast_a_a1_apply _ shapeCasts_S2048_S2048x1 p (0 : Fin 1)).trans ((rowMax_apply _ p).trans ?_)
  rw [← h.without_second, ← fold_max_of_isFirst h.second]
  exact congrArg (fun f => (Finset.univ : Finset (Fin 8)).fold max ⊥ f) (funext fun e => masked_apply h e)

/-- The second position word is the second expert's. -/
theorem top2_word (h : IsTop (logitRow x wg bg p) i j) :
    k0_pay7 (F := Ideal) x wg bg (ix2 p (0 : Fin 1)) = BitVec.ofNat 32 j.val := by
  unfold k0_pay7
  refine (shapeCast_a_a1_apply _ shapeCasts_S2048_S2048x1 p (0 : Fin 1)).trans ((rowMin_apply _ p).trans ?_)
  refine fold_min_of_isFirst h.second _ fun e => ?_
  rw [hits_apply, masked_apply h, top2_value h, h.without_second]

/-- The exponential of the difference of the two chosen logits. -/
theorem ratio_apply (h : IsTop (logitRow x wg bg p) i j) :
    k0_pay8 (F := Ideal) x wg bg (ix2 p (0 : Fin 1)) = ratio (logitRow x wg bg p) i j := by
  have hj := top2_value h
  have hi := top1_value h
  unfold ratio k0_pay8
  rw [← hj, ← hi]
  generalize k0_pay6 (F := Ideal) x wg bg = a
  generalize k0_pay3 (F := Ideal) x wg bg = b
  rfl

/-- The word for one is one. -/
theorem one_word : (Scalar.ofBits .f32 0x3F800000#32 : Ideal .f32) = (1 : EReal) := Ideal.ofBits_one_f32

/-- The word for zero is zero. -/
theorem zero_word : (Scalar.ofBits .f32 0x00000000#32 : Ideal .f32) = (0 : EReal) := Ideal.ofBits_zero_f32

/-- The weights the gate leaves for token `p`. -/
theorem gateComb_apply (h : IsTop (logitRow x wg bg p) i j) (e : Fin 8) :
    gateComb (F := Ideal) x wg bg (ix2 p e) = weight (logitRow x wg bg p) i j e := by
  have hden : (Scalar.ofBits .f32 0x3F800000#32 : Ideal .f32) + (k0_pay8 (F := Ideal) x wg bg (ix2 p (0 : Fin 1)) : EReal)
      = (1 + ratio (logitRow x wg bg p) i j : EReal) := by
    rw [one_word, ratio_apply h]
  have hfirst : k0_pay11 (F := Ideal) x wg bg (ix2 p e) = Ideal.div 1 (1 + ratio (logitRow x wg bg p) i j) := by
    unfold k0_pay11
    refine (column_apply _ broadcasts_S2048x1_S2048x8 p e).trans ?_
    rw [shapeCast_self, ← hden]
    generalize k0_pay8 (F := Ideal) x wg bg = r
    exact congrArg (fun z : EReal => Ideal.div z _) one_word
  have hsecond : broadcastTo S2048x8 (shapeCast S2048x1 (k0_pay9 (F := Ideal) x wg bg) shapeCasts_S2048x1_S2048x1) broadcasts_S2048x1_S2048x8 (ix2 p e)
      = Ideal.div (ratio (logitRow x wg bg p) i j) (1 + ratio (logitRow x wg bg p) i j) := by
    refine (column_apply _ broadcasts_S2048x1_S2048x8 p e).trans ?_
    rw [shapeCast_self, ← hden, ← ratio_apply h]
    unfold k0_pay9
    generalize k0_pay8 (F := Ideal) x wg bg = r
    rfl
  unfold gateComb k0_pay13
  rw [shapeCast_self]
  refine congrArg₂ (fun a b : EReal => a + b) ?_ ?_
  · refine (named_apply (k0_pay4 (F := Ideal) x wg bg) (k0_pay11 (F := Ideal) x wg bg) (k0_pay12 (F := Ideal)) p e i (top1_word h)).trans ?_
    rw [hfirst]
    exact congrArg (fun z : EReal => if e = i then _ else z) zero_word
  · refine (named_apply (k0_pay7 (F := Ideal) x wg bg) _ _ p e j (top2_word h)).trans ?_
    rw [hsecond]
    exact congrArg (fun z : EReal => if e = j then _ else z) zero_word

/-- The first of the pair the gate reports. -/
theorem gateIdx_first (h : IsTop (logitRow x wg bg p) i j) :
    gateIdx (F := Ideal) x wg bg (ix2 p (0 : Fin 2)) = BitVec.ofNat 32 i.val := by
  rw [← top1_word h]
  exact concatenate_pair_apply_left (t := S2048x2) 1 (k0_pay4 (F := Ideal) x wg bg) (k0_pay7 (F := Ideal) x wg bg) concatenates_S2048x1_S2048x1_S2048x2_d1
    (ix2 p (0 : Fin 2)) rfl (ix2 p (0 : Fin 1)) (fun b => by match b with | ⟨0, _⟩ => rfl | ⟨1, _⟩ => rfl)

/-- The second of the pair. -/
theorem gateIdx_second (h : IsTop (logitRow x wg bg p) i j) :
    gateIdx (F := Ideal) x wg bg (ix2 p (1 : Fin 2)) = BitVec.ofNat 32 j.val := by
  rw [← top2_word h]
  exact concatenate_pair_apply_right (t := S2048x2) 1 (k0_pay4 (F := Ideal) x wg bg) (k0_pay7 (F := Ideal) x wg bg) concatenates_S2048x1_S2048x1_S2048x2_d1
    (ix2 p (1 : Fin 2)) rfl rfl (ix2 p (0 : Fin 1))
    (fun b hb => by match b with | ⟨0, _⟩ => rfl | ⟨1, _⟩ => exact absurd rfl hb) rfl

end

end Cert.KernelIdeal.Hand
-- ==== Proof.Hand.RefValue.lean ====
module

public import proofs.«01_k».proof.Proof.Hand.Gate
public import proofs.«01_k».proof.Proof.Gen.ReferenceIdeal.Read

/-!
What the reference computes over the extended reals, at a token whose two chosen experts are known:
the pair itself, the softmax weights, and the weighted sum of the experts' outputs.
-/

@[expose] public section

set_option maxRecDepth 16384

noncomputable section

namespace Cert.ReferenceIdeal.Hand

open Cert.ReferenceIdeal Cert.ReferenceIdeal.Gen Cert.ReferenceIdeal.Read
open Cert.KernelIdeal.Hand (IsTop IsFirst sortedFrom_of_isTop logit ratio weight negInf_word position_inj)
open Idealize.ShloMosaic Idealize.ShloMosaic.TcCoe Idealize.ShloMosaic.ValueIdx

/-- The position along row `p` that the sort puts at place `a`. -/
def place (y : FVec Ideal S2048x8 .f32) (p : Fin 2048) (a : Fin 8) : Fin 8 :=
  sortedFrom (fun k k' => decide (y (ix2 p k') < y (ix2 p k))) a

/-- Along a row, an index moved to another column. -/
theorem along_row (p : Fin 2048) (a k : Fin 8) : Shape.Idx.along (s := S2048x8) (ix2 p a) 1 k = ix2 p k := by
  funext b
  match b with
  | ⟨0, _⟩ => rfl
  | ⟨1, _⟩ => rfl

/-- The comparison that ranks a row's entries. -/
theorem before_eq (y : FVec Ideal S2048x8 .f32) (p : Fin 2048) (a : Fin 8) :
    (fun k k' : Fin 8 => FloatOps.cmpfTotal .gt (y (Shape.Idx.along (s := S2048x8) (ix2 p a) 1 k))
        (y (Shape.Idx.along (s := S2048x8) (ix2 p a) 1 k')) == 1#1)
      = fun k k' => decide (y (ix2 p k') < y (ix2 p k)) := by
  funext k k'
  rw [along_row, along_row, Ideal.cmpfTotal_def]
  show (BitVec.ofBool (decide (y (ix2 p k') < y (ix2 p k))) == 1#1) = _
  cases decide (y (ix2 p k') < y (ix2 p k)) <;> rfl

/-- The value at place `a` of row `p`'s leading pair. -/
theorem topK_value (y : FVec Ideal S2048x8 .f32) (p : Fin 2048) (a : Fin 2) :
    (Host.topK S2048x2 1 (FloatOps.cmpfTotal .gt) y sliceFits_S2048x8_S2048x2).1 (ix2 p a)
      = y (ix2 p (place y p (a.castLE (by decide)))) := by
  have hp : (fun b : Fin 2 => (⟨0 + (ix2 p a b).val, by
      match b with
      | ⟨0, _⟩ => have := p.isLt; show 0 + p.val < 2048; omega
      | ⟨1, _⟩ => have := a.isLt; show 0 + a.val < 8; omega⟩ : Fin (S2048x8.size b))) = ix2 p (a.castLE (by decide) : Fin 8) :=
    funext fun b => Fin.ext (by
      match b with
      | ⟨0, _⟩ => exact Nat.zero_add _
      | ⟨1, _⟩ => exact Nat.zero_add _)
  have h : ∀ q : Fin 8, (Host.sort2 S2048x8 1 (fun l r => FloatOps.cmpfTotal .gt l.1 r.1) y
      (fun i => iotaInDim S2048x8 32 1 i)).1 (ix2 p q) = y (ix2 p (place y p q)) := by
    intro q
    unfold place
    rw [← before_eq y p q]
    exact congrArg y (along_row p q _)
  refine Eq.trans ?_ (h (a.castLE (by decide)))
  exact congrArg (Host.sort2 S2048x8 1 (fun l r => FloatOps.cmpfTotal .gt l.1 r.1) y (fun i => iotaInDim S2048x8 32 1 i)).1 hp

/-- The position word at place `a` of row `p`'s leading pair. -/
theorem topK_word (y : FVec Ideal S2048x8 .f32) (p : Fin 2048) (a : Fin 2) :
    (Host.topK S2048x2 1 (FloatOps.cmpfTotal .gt) y sliceFits_S2048x8_S2048x2).2 (ix2 p a)
      = BitVec.ofNat 32 (place y p (a.castLE (by decide))).val := by
  have hp : (fun b : Fin 2 => (⟨0 + (ix2 p a b).val, by
      match b with
      | ⟨0, _⟩ => have := p.isLt; show 0 + p.val < 2048; omega
      | ⟨1, _⟩ => have := a.isLt; show 0 + a.val < 8; omega⟩ : Fin (S2048x8.size b))) = ix2 p (a.castLE (by decide) : Fin 8) :=
    funext fun b => Fin.ext (by
      match b with
      | ⟨0, _⟩ => exact Nat.zero_add _
      | ⟨1, _⟩ => exact Nat.zero_add _)
  have h : ∀ q : Fin 8, (Host.sort2 S2048x8 1 (fun l r => FloatOps.cmpfTotal .gt l.1 r.1) y
      (fun i => iotaInDim S2048x8 32 1 i)).2 (ix2 p q) = BitVec.ofNat 32 (place y p q).val := by
    intro q
    unfold place
    rw [← before_eq y p q]
    exact congrArg (iotaInDim S2048x8 32 1) (along_row p q _)
  refine Eq.trans ?_ (h (a.castLE (by decide)))
  exact congrArg (Host.sort2 S2048x8 1 (fun l r => FloatOps.cmpfTotal .gt l.1 r.1) y (fun i => iotaInDim S2048x8 32 1 i)).2 hp

section

variable (x0 : (⟨S2048x1024, .f32⟩ : BufTy).Contents (Elt Ideal)) (x1 : (⟨S1024x8, .f32⟩ : BufTy).Contents (Elt Ideal))
  (x2 : (⟨S8, .f32⟩ : BufTy).Contents (Elt Ideal)) (x3 : (⟨S8x1024x1024, .f32⟩ : BufTy).Contents (Elt Ideal))
  (x4 : (⟨S8x1024, .f32⟩ : BufTy).Contents (Elt Ideal))

/-- Token `p`'s logits in the reference. -/
def refLogits (p : Fin 2048) : Fin 8 → EReal := logit x0 x1 (fun e => x2 (ix1 e)) p

theorem v3_apply (p : Fin 2048) (e : Fin 8) : val_main_v3 (F := Ideal) x0 x1 x2 (ix2 p e) = refLogits x0 x1 x2 p e := by
  rw [val_main_v3_apply, val_main_v0_apply, val_main_v2_apply, val_main_v1_apply]
  refine congrArg₂ (fun a b : EReal => a + b) (Finset.sum_congr rfl fun k _ => congrArg₂ (fun a b : EReal => a * b) ?_ ?_) ?_
  · exact congrArg x0 (funext fun a => Fin.ext (by match a with | ⟨0, _⟩ => rfl | ⟨1, _⟩ => rfl))
  · exact congrArg x1 (funext fun a => Fin.ext (by match a with | ⟨0, _⟩ => rfl | ⟨1, _⟩ => rfl))
  · exact congrArg x2 (funext fun a => Fin.ext (by match a with | ⟨0, _⟩ => rfl))

variable {x0 x1 x2} {p : Fin 2048} {i j : Fin 8}

/-- The sort's first two places of row `p` are the two chosen experts. -/
theorem place_eq (h : IsTop (refLogits x0 x1 x2 p) i j) :
    place (val_main_v3 (F := Ideal) x0 x1 x2) p 0 = i ∧ place (val_main_v3 (F := Ideal) x0 x1 x2) p 1 = j := by
  have e : ∀ a, place (val_main_v3 (F := Ideal) x0 x1 x2) p a
      = sortedFrom (fun k k' => decide (refLogits x0 x1 x2 p k' < refLogits x0 x1 x2 p k)) a := by
    intro a
    unfold place
    congr 1
    funext k k'
    rw [v3_apply, v3_apply]
  rw [e, e]
  exact sortedFrom_of_isTop h

theorem indices_first (h : IsTop (refLogits x0 x1 x2 p) i j) :
    val_main_indices (F := Ideal) x0 x1 x2 (ix2 p (0 : Fin 2)) = BitVec.ofNat 32 i.val := by
  refine (topK_word _ p 0).trans ?_
  exact congrArg (fun k : Fin 8 => BitVec.ofNat 32 k.val) (place_eq h).1

theorem indices_second (h : IsTop (refLogits x0 x1 x2 p) i j) :
    val_main_indices (F := Ideal) x0 x1 x2 (ix2 p (1 : Fin 2)) = BitVec.ofNat 32 j.val := by
  refine (topK_word _ p 1).trans ?_
  exact congrArg (fun k : Fin 8 => BitVec.ofNat 32 k.val) (place_eq h).2

theorem values_first (h : IsTop (refLogits x0 x1 x2 p) i j) :
    val_main_values (F := Ideal) x0 x1 x2 (ix2 p (0 : Fin 2)) = refLogits x0 x1 x2 p i := by
  refine (topK_value _ p 0).trans ((v3_apply x0 x1 x2 p _).trans ?_)
  exact congrArg (refLogits x0 x1 x2 p) (place_eq h).1

theorem values_second (h : IsTop (refLogits x0 x1 x2 p) i j) :
    val_main_values (F := Ideal) x0 x1 x2 (ix2 p (1 : Fin 2)) = refLogits x0 x1 x2 p j := by
  refine (topK_value _ p 1).trans ((v3_apply x0 x1 x2 p _).trans ?_)
  exact congrArg (refLogits x0 x1 x2 p) (place_eq h).2

/-- The softmax subtracts the first chosen logit. -/
theorem v8_apply (h : IsTop (refLogits x0 x1 x2 p) i j) (a : Fin 2) :
    val_main_v8 (F := Ideal) x0 x1 x2 (ix2 p a) = refLogits x0 x1 x2 p i := by
  rw [val_main_v8_apply, val_main_v7_apply, val_main_v6_apply, val_main_v5_apply, val_main_cst_0_apply]
  have hr : S2048x2.Reduces [1] S2048 := by decide
  have hi : idx_main_v7 (idx_main_v8 (ix2 p a)) = ix1 p := funext fun b => Fin.ext (by match b with | ⟨0, _⟩ => rfl)
  have hl : ∀ k : Fin 2, hr.lift (ix1 p) k = ix2 p k := fun k =>
    funext fun b => Fin.ext (by match b with | ⟨0, _⟩ => rfl | ⟨1, _⟩ => rfl)
  have h4 : val_main_v4 (F := Ideal) x0 x1 x2 (ix1 p)
      = (Finset.univ : Finset (Fin 2)).fold max (⊥ : EReal) fun k => val_main_values (F := Ideal) x0 x1 x2 (ix2 p k) := by
    unfold val_main_v4
    refine (Host.reduce_eq_fold_single (α := Ideal .f32) (FloatOps.maximumf (F := Ideal) (φ := .f32)) (val_main_values (F := Ideal) x0 x1 x2) (val_main_cst (F := Ideal))
      reducesTo_S2048x2_S2048_d1 hr h_S_ (ix1 p)).trans ?_
    have hf : (val_main_values (F := Ideal) x0 x1 x2 ∘ hr.lift (ix1 p)) = fun k : Fin 2 => val_main_values (F := Ideal) x0 x1 x2 (ix2 p k) :=
      funext fun k => congrArg (val_main_values (F := Ideal) x0 x1 x2) (hl k)
    rw [hf]
    exact congrArg (fun b => (Finset.univ : Finset (Fin 2)).fold max b fun k => val_main_values (F := Ideal) x0 x1 x2 (ix2 p k)) negInf_word
  rw [hi, h4]
  have hle : refLogits x0 x1 x2 p j ≤ refLogits x0 x1 x2 p i := h.first.1 j
  have h5 : (Finset.univ : Finset (Fin 2)).fold max (⊥ : EReal) (fun k => val_main_values (F := Ideal) x0 x1 x2 (ix2 p k))
      = refLogits x0 x1 x2 p i := by
    apply le_antisymm
    · refine (Finset.fold_max_le _).mpr ⟨bot_le, fun k _ => ?_⟩
      match k with
      | ⟨0, _⟩ => exact le_of_eq (values_first h)
      | ⟨1, _⟩ => exact (le_of_eq (values_second h)).trans hle
    · exact (Finset.le_fold_max _).mpr (Or.inr ⟨0, Finset.mem_univ _, le_of_eq (values_first h).symm⟩)
  rw [h5]
  refine (congrArg (fun z : EReal => max z _) negInf_word).trans ?_
  exact max_eq_right bot_le

/-- The larger exponential is one, if the first chosen logit is a real number. -/
theorem v10_first (h : IsTop (refLogits x0 x1 x2 p) i j) {t : ℝ} (ht : refLogits x0 x1 x2 p i = (t : EReal)) :
    val_main_v10 (F := Ideal) x0 x1 x2 (ix2 p (0 : Fin 2)) = (1 : EReal) := by
  rw [val_main_v10_apply, val_main_v9_apply, values_first h, v8_apply h, ht]
  show Ideal.exp ((t : EReal) - t) = 1
  rw [← EReal.coe_sub, sub_self, Ideal.exp_coe, Real.exp_zero]
  rfl

/-- The smaller exponential. -/
theorem v10_second (h : IsTop (refLogits x0 x1 x2 p) i j) :
    val_main_v10 (F := Ideal) x0 x1 x2 (ix2 p (1 : Fin 2)) = ratio (refLogits x0 x1 x2 p) i j := by
  rw [val_main_v10_apply, val_main_v9_apply, values_second h, v8_apply h]
  rfl

/-- The sum of the two exponentials. -/
theorem v13_apply (h : IsTop (refLogits x0 x1 x2 p) i j) {t : ℝ} (ht : refLogits x0 x1 x2 p i = (t : EReal)) (a : Fin 2) :
    val_main_v13 (F := Ideal) x0 x1 x2 (ix2 p a) = 1 + ratio (refLogits x0 x1 x2 p) i j := by
  rw [val_main_v13_apply, val_main_v12_apply, val_main_v11_apply, val_main_cst_1_apply]
  have hk : ∀ k : Fin 2, idx_main_v11 (idx_main_v12 (idx_main_v13 (ix2 p a))) k = ix2 p k := fun k =>
    funext fun b => Fin.ext (by match b with | ⟨0, _⟩ => rfl | ⟨1, _⟩ => rfl)
  rw [Fin.sum_univ_two, hk, hk, v10_first h ht, v10_second h]
  refine (congrArg (fun z : EReal => z + _) Ideal.ofBits_zero_f32).trans ?_
  exact zero_add _

/-- The one-hot rows: one at the chosen expert. -/
theorem v15_apply (a : Fin 2) (e k : Fin 8) (hk : val_main_indices (F := Ideal) x0 x1 x2 (ix2 p a) = BitVec.ofNat 32 k.val) :
    val_main_v15 (F := Ideal) x0 x1 x2 (ix3 p a e) = if e = k then (1 : EReal) else 0 := by
  have hi : idx_main_call0_v0 (idx_main_call0_v2 (ix3 p a e)) = ix2 p a :=
    funext fun b => Fin.ext (by match b with | ⟨0, _⟩ => rfl | ⟨1, _⟩ => rfl)
  have he : val_main_call0_v3 (F := Ideal) (ix3 p a e) = BitVec.ofNat 32 e.val := by
    rw [val_main_call0_v3_apply, val_main_call0_v1_apply]
  rw [val_main_v15_apply, val_main_call0_v4_apply, val_main_call0_v2_apply, val_main_call0_v0_apply, hi, hk, he, WordCmp.cmpi_eq_eq]
  have hd : decide (BitVec.ofNat 32 k.val = BitVec.ofNat 32 e.val) = decide (e = k) :=
    decide_eq_decide.mpr ((position_inj k e).trans eq_comm)
  rw [hd]
  show (((BitVec.ofBool (decide (e = k))).toNat : ℝ) : EReal) = _
  by_cases h : e = k <;> simp [h]

/-- The reference's weight of expert `e`. -/
theorem v16_apply (h : IsTop (refLogits x0 x1 x2 p) i j) {t : ℝ} (ht : refLogits x0 x1 x2 p i = (t : EReal)) (e : Fin 8) :
    val_main_v16 (F := Ideal) x0 x1 x2 (ix2 p e) = weight (refLogits x0 x1 x2 p) i j e := by
  have hl : ∀ k : Fin 2, lidx_main_v16 (ix2 p e) k = ix2 p k := fun k =>
    funext fun b => Fin.ext (by match b with | ⟨0, _⟩ => rfl | ⟨1, _⟩ => rfl)
  have hr : ∀ k : Fin 2, ridx_main_v16 (ix2 p e) k = ix3 p k e := fun k =>
    funext fun b => Fin.ext (by match b with | ⟨0, _⟩ => rfl | ⟨1, _⟩ => rfl | ⟨2, _⟩ => rfl)
  rw [val_main_v16_apply, Fin.sum_univ_two, hl, hl, hr, hr, val_main_v14_apply, val_main_v14_apply, v10_first h ht, v10_second h,
    v13_apply h ht, v13_apply h ht, v15_apply 0 e i (indices_first h), v15_apply 1 e j (indices_second h)]
  unfold weight
  refine congrArg₂ (fun a b : EReal => a + b) ?_ ?_
  · by_cases he : e = i <;> simp [he]
  · by_cases he : e = j <;> simp [he]

/-- The reference's output at a token and a column. -/
theorem v21_apply (h : IsTop (refLogits x0 x1 x2 p) i j) {t : ℝ} (ht : refLogits x0 x1 x2 p i = (t : EReal)) (c : Fin 1024) :
    val_main_v21 (F := Ideal) x0 x1 x2 x3 x4 (ix2 p c)
      = ∑ e : Fin 8, weight (refLogits x0 x1 x2 p) i j e
          * ((∑ k : Fin 1024, (x0 (ix2 p k) : EReal) * x3 (ix3 e k c)) + x4 (ix2 e c)) := by
  rw [val_main_v21_apply]
  refine Finset.sum_congr rfl fun e _ => congrArg₂ (fun a b : EReal => a * b) ?_ ?_
  · have hl : lidx_main_v21 (ix2 p c) e = ix2 p e :=
      funext fun b => Fin.ext (by match b with | ⟨0, _⟩ => rfl | ⟨1, _⟩ => rfl)
    rw [hl]
    exact v16_apply h ht e
  · rw [val_main_v20_apply, val_main_v17_apply, val_main_v19_apply, val_main_v18_apply]
    refine congrArg₂ (fun a b : EReal => a + b) (Finset.sum_congr rfl fun k _ => congrArg₂ (fun a b : EReal => a * b) ?_ ?_) ?_
    · exact congrArg x0 (funext fun b => Fin.ext (by match b with | ⟨0, _⟩ => rfl | ⟨1, _⟩ => rfl))
    · exact congrArg x3 (funext fun b => Fin.ext (by match b with | ⟨0, _⟩ => rfl | ⟨1, _⟩ => rfl | ⟨2, _⟩ => rfl))
    · exact congrArg x4 (funext fun b => Fin.ext (by match b with | ⟨0, _⟩ => rfl | ⟨1, _⟩ => rfl))

end

end Cert.ReferenceIdeal.Hand
-- ==== Proof.Hand.Equation.lean ====
module

public import proofs.«01_k».proof.Proof.Hand.Block
public import proofs.«01_k».proof.Proof.Hand.RefValue
public import proofs.«01_k».proof.Proof.Gen.Pre_gate_finite
public import Idealize.ShloMosaic.Lib.ValueLayout

/-!
The two programs' results agree over the extended reals wherever the gate's inputs are finite.

The logits are then real, so the two routing weights of a token are nonnegative reals, and such a weight
distributes over a sum of extended reals. That is all that separates the kernel's sum (the weighted biases first,
then one weighted product per expert) from the reference's (one weighted sum of product and bias per expert).
-/

@[expose] public section

set_option maxRecDepth 16384

noncomputable section

namespace Cert.Equation

open Cert.KernelIdeal.Hand Cert.ReferenceIdeal.Hand Cert.ReferenceIdeal.Read
open Idealize.ShloMosaic Idealize.ShloMosaic.TcCoe

/-- An extended real whose magnitude is below infinity is a real number. -/
theorem real_of_abs_lt (a : EReal) (h : max a (-a) < ⊤) : ∃ r : ℝ, a = (r : EReal) := by
  induction a with
  | bot => simp at h
  | top => simp at h
  | coe r => exact ⟨r, rfl⟩

/-- The word for `+∞` is `+∞`. -/
theorem posInf_word : Ideal.ofBits .f32 0x7F800000#32 = ⊤ := by
  simp [Ideal.ofBits, Ideal.ieee]

/-- The test `|a| < ∞` answers one only at a real number. -/
theorem real_of_test (a : EReal) (h : FloatOps.cmpf (F := Ideal) (φ := .f32) .olt (FloatOps.absf (F := Ideal) (φ := .f32) a)
    (FloatOps.ofBits (F := Ideal) .f32 0x7F800000#32) = 1#1) : ∃ r : ℝ, a = (r : EReal) := by
  refine real_of_abs_lt a ?_
  by_contra hn
  have h' : BitVec.ofBool (decide (max a (-a) < Ideal.ofBits .f32 0x7F800000#32)) = 1#1 := h
  rw [posInf_word, decide_eq_false hn] at h'
  exact absurd h' (by decide)

/-- A finite sum of real numbers is a real number. -/
theorem real_sum {ι : Type} (s : Finset ι) (f : ι → EReal) (hf : ∀ k, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

section Logits

variable (x : FVec Ideal Cert.KernelIdeal.S2048x1024 .f32) (wg : FVec Ideal Cert.KernelIdeal.S1024x8 .f32) (bg : Fin 8 → EReal)

/-- With finite gate inputs, every logit is a real number. -/
theorem logit_real (hx : ∀ i, ∃ r : ℝ, x i = (r : EReal)) (hw : ∀ i, ∃ r : ℝ, wg i = (r : EReal))
    (hb : ∀ e, ∃ r : ℝ, bg e = (r : EReal)) (p : Fin 2048) (e : Fin 8) : ∃ r : ℝ, logit x wg bg p e = (r : EReal) := by
  obtain ⟨s, hs⟩ := real_sum Finset.univ
    (fun k : Fin 1024 => x (ValueIdx.ix2 p k) * wg (ValueIdx.ix2 k e)) fun k => by
      obtain ⟨r, hr⟩ := hx (ValueIdx.ix2 p k)
      obtain ⟨q, hq⟩ := hw (ValueIdx.ix2 k e)
      exact ⟨r * q, by rw [hr, hq, EReal.coe_mul]⟩
  obtain ⟨q, hq⟩ := hb e
  exact ⟨s + q, by rw [logit, hs, hq, EReal.coe_add]⟩

end Logits

/-- The routing weight of an expert, when every logit is real, is a nonnegative real number. -/
theorem weight_real (v : Fin 8 → EReal) (hv : ∀ e, ∃ r : ℝ, v e = (r : EReal)) (i j e : Fin 8) :
    ∃ r : ℝ, 0 ≤ r ∧ weight v i j e = (r : EReal) := by
  obtain ⟨a, ha⟩ := hv i
  obtain ⟨b, hb⟩ := hv j
  have hpos : 0 < Real.exp (b - a) := Real.exp_pos _
  have hr : ratio v i j = ((Real.exp (b - a) : ℝ) : EReal) := by
    rw [ratio, ha, hb, ← EReal.coe_sub, Ideal.exp_coe]
  have hden : (1 : EReal) + ratio v i j = ((1 + Real.exp (b - a) : ℝ) : EReal) := by
    rw [hr, EReal.coe_add, EReal.coe_one]
  have hne : (1 + Real.exp (b - a) : ℝ) ≠ 0 := by positivity
  have h1 : Ideal.div 1 (1 + ratio v i j) = ((1 / (1 + Real.exp (b - a)) : ℝ) : EReal) := by
    rw [hden, Ideal.div_coe hne, one_mul]
  have h2 : Ideal.div (ratio v i j) (1 + ratio v i j)
      = ((Real.exp (b - a) * (1 / (1 + Real.exp (b - a))) : ℝ) : EReal) := by
    rw [hden, Ideal.div_coe hne, hr, EReal.coe_mul]
  refine ⟨(if e = i then 1 / (1 + Real.exp (b - a)) else 0)
    + (if e = j then Real.exp (b - a) * (1 / (1 + Real.exp (b - a))) else 0), ?_, ?_⟩
  · have : 0 ≤ 1 / (1 + Real.exp (b - a)) := by positivity
    have : 0 ≤ Real.exp (b - a) * (1 / (1 + Real.exp (b - a))) := by positivity
    split_ifs <;> positivity
  · rw [weight, h1, h2, EReal.coe_add]
    split_ifs <;> simp

/-- Nonnegative real weights may be taken over the sum of product and bias, or over the biases and products apart. -/
theorem weighted_sum (w a b : Fin 8 → EReal) (hw : ∀ e, ∃ r : ℝ, 0 ≤ r ∧ w e = (r : EReal)) :
    (∑ e, w e * b e) + ∑ e, w e * a e = ∑ e, w e * (a e + b e) := by
  rw [← Finset.sum_add_distrib]
  refine Finset.sum_congr rfl fun e _ => ?_
  obtain ⟨r, h0, hr⟩ := hw e
  rw [hr, EReal.left_distrib_of_nonneg_of_ne_top (EReal.coe_nonneg.mpr h0) (EReal.coe_ne_top r), add_comm]

section Agreement

variable (x : FVec Ideal Cert.KernelIdeal.S2048x1024 .f32) (wg : FVec Ideal Cert.KernelIdeal.S1024x8 .f32)
  (bg : FVec Ideal Cert.KernelIdeal.S8 .f32) (W : FVec Ideal Cert.KernelIdeal.S8x1024x1024 .f32)
  (b : FVec Ideal Cert.KernelIdeal.S8x1024 .f32)

/-- The gate's bias laid out as one row, as the kernel takes it. -/
abbrev biasRow : FVec Ideal Cert.KernelIdeal.S1x8 .f32 :=
  shapeCast Cert.KernelIdeal.S1x8 bg Cert.KernelIdeal.Gen.shapeCasts_S8_S1x8

/-- The kernel's logits of a token are the reference's. -/
theorem logitRow_eq (p : Fin 2048) : logitRow x wg (biasRow bg) p = refLogits x wg bg p := by
  funext e
  show _ + biasRow bg (ValueIdx.ix2 (0 : Fin 1) e) = _ + bg (ValueIdx.ix1 e)
  exact congrArg (_ + ·) (ValueIdx.shapeCast_a_1a_apply bg _ 0 e)

/-- The gate's inputs are finite: the tokens, the gate's weights and its bias. -/
structure GateFinite : Prop where
  tokens : ∀ i, ∃ r : ℝ, x i = (r : EReal)
  weights : ∀ i, ∃ r : ℝ, wg i = (r : EReal)
  bias : ∀ i, ∃ r : ℝ, bg i = (r : EReal)

variable {x wg bg}

/-- With finite gate inputs a token's logits are real. -/
theorem GateFinite.logits (h : GateFinite x wg bg) (p : Fin 2048) (e : Fin 8) : ∃ r : ℝ, refLogits x wg bg p e = (r : EReal) :=
  logit_real x wg (fun e => bg (ValueIdx.ix1 e)) h.tokens h.weights (fun e => h.bias (ValueIdx.ix1 e)) p e

/-- With finite gate inputs every token has its two chosen experts. -/
theorem GateFinite.pair (h : GateFinite x wg bg) (p : Fin 2048) : ∃ i j, IsTop (refLogits x wg bg p) i j :=
  exists_isTop _ fun e => by
    obtain ⟨r, hr⟩ := h.logits p e
    rw [hr]
    exact EReal.coe_ne_bot r

/-- The first result: the kernel's output array is the reference's. -/
theorem output_eq (h : GateFinite x wg bg) :
    outArr (F := Ideal) x wg (biasRow bg) W b = val_main_v21 (F := Ideal) x wg bg W b := by
  funext q
  obtain ⟨p, c, rfl⟩ : ∃ (p : Fin 2048) (c : Fin 1024), q = ValueIdx.ix2 p c := ⟨q 0, q 1, ValueIdx.eq_ix2 q⟩
  obtain ⟨i, j, ht⟩ := h.pair p
  obtain ⟨t, hreal⟩ := h.logits p i
  have hk : IsTop (logitRow x wg (biasRow bg) p) i j := by rw [logitRow_eq]; exact ht
  rw [outArr_apply, v21_apply W b ht hreal]
  simp only [gateComb_apply hk, logitRow_eq]
  exact weighted_sum _ _ _ (weight_real _ (h.logits p) i j)

/-- The second result: the kernel's array of chosen experts is the reference's. -/
theorem indices_eq (h : GateFinite x wg bg) :
    gateIdx (F := Ideal) x wg (biasRow bg) = val_main_indices (F := Ideal) x wg bg := by
  funext q
  obtain ⟨p, c, rfl⟩ : ∃ (p : Fin 2048) (c : Fin 2), q = ValueIdx.ix2 p c := ⟨q 0, q 1, ValueIdx.eq_ix2 q⟩
  obtain ⟨i, j, ht⟩ := h.pair p
  have hk : IsTop (logitRow x wg (biasRow bg) p) i j := by rw [logitRow_eq]; exact ht
  match c with
  | ⟨0, _⟩ => exact (gateIdx_first hk).trans (indices_first ht).symm
  | ⟨1, _⟩ => exact (gateIdx_second hk).trans (indices_second ht).symm

/-- The stated precondition, read: where its three tests answer one everywhere, the gate's inputs are finite. -/
theorem gateFinite_of_tests
    (h0 : (Cert.Pre_gate_finite.fn (F := Ideal) x wg bg W b).1 = fun _ => 1#1)
    (h1 : (Cert.Pre_gate_finite.fn (F := Ideal) x wg bg W b).2.1 = fun _ => 1#1)
    (h2 : (Cert.Pre_gate_finite.fn (F := Ideal) x wg bg W b).2.2 = fun _ => 1#1) : GateFinite x wg bg where
  tokens i := real_of_test (x i) (congrFun h0 i)
  weights i := real_of_test (wg i) (congrFun h1 i)
  bias i := real_of_test (bg i) (congrFun h2 i)

end Agreement

end Cert.Equation

end
-- ==== Proof.Hand.Frame.lean ====
module

public import proofs.«01_k».proof.Proof.Hand.Arrays
public import proofs.«01_k».proof.Proof.Gen.Kernel

/-!
The kernel's frame in any arithmetic. The ideal program is the kernel's own text, with no operation rewritten, so the
launch proved of it for every choice of floats is the kernel's as well.
-/

@[expose] public section

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The kernel's program is the ideal program. -/
theorem main_eq : main (F := F) = Cert.KernelIdeal.main (F := F) := rfl

/-- The kernel's body is the ideal program's. -/
theorem body_eq : @cc0__moe_dense_body F _ _ = @Cert.KernelIdeal.cc0__moe_dense_body F _ _ := rfl

/-- The table of bodies is the ideal program's. -/
theorem defs0_eq : defs₀ (F := F) = Cert.KernelIdeal.defs₀ (F := F) := by
  unfold defs₀ Cert.KernelIdeal.defs₀
  refine congrArg Defs.onTc (funext fun l => funext fun a => ?_)
  match l, a with
  | 0, (t, s) => rfl

/-- The table with the pipeline around the body is the ideal program's. -/
theorem defs_eq : defs (F := F) = Cert.KernelIdeal.defs (F := F) :=
  congrArg (Pipeline.defs (pcfgs (F := F))) defs0_eq

/-- The launch of the kernel from any memory: it ends, its arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [main_eq, defs_eq]
  exact (θ_run Cert.KernelIdeal.defs _ _).mono (fun _ h => ⟨fun c => (h.1 c).2.2, h.2⟩) (Cert.KernelIdeal.Hand.run_values (F := F) m ρ)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_gate_finite
public import proofs.«01_k».proof.Proof.Hand.Arrays
public import proofs.«01_k».proof.Proof.Hand.Equation
public import proofs.«01_k».proof.Proof.Hand.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel in machine arithmetic runs to its end from every memory, leaves its arguments alone and every counter at zero. -/
theorem frame_kernel : Cert.quiescent_Kernel := fun m ρ _ => Cert.Kernel.Hand.frame m ρ

/-- The kernel over the extended reals runs to its end from every memory, leaves its arguments alone and every counter at
    zero. -/
theorem frame_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2.2, h.2⟩) (Cert.KernelIdeal.Hand.run_values (F := Ideal) m ρ)

/-- The reference over the extended reals runs to its end from every memory and leaves its arguments alone; it declares no
    semaphore, so every counter is at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m ρ)

/-- From memories that agree on the arguments, and finite gate inputs, the kernel and the reference end with the same output
    array and the same array of chosen experts, over the extended reals. -/
theorem algebraic : Cert.algebraic_KernelIdeal_ReferenceIdeal_pre_gate_finite := by
  intro m g m' g' hpre hagree
  refine ⟨Cert.KernelIdeal.Hand.outOf m, Cert.KernelIdeal.Hand.idxOf m,
    (θ_run Cert.KernelIdeal.defs _ _).mono (fun _ h => h.1) (Cert.KernelIdeal.Hand.run_values (F := Ideal) m g),
    (θ_run Cert.ReferenceIdeal.defs _ _).mono (fun r h c => ?_) (Cert.ReferenceIdeal.Value.run (F := Ideal) m' g')⟩
  obtain ⟨h0, h1, hargs⟩ := h c
  obtain ⟨e0, e1, e2, e3, e4⟩ := hagree c
  have hfin := Cert.Equation.gateFinite_of_tests _ _ (hpre c).1 (hpre c).2.1 (hpre c).2.2
  refine ⟨(h0.trans (Cert.ReferenceIdeal.Read.val_main_v21_eq _ _ _ _ _)).trans ?_,
    (h1.trans (Cert.ReferenceIdeal.Read.val_main_indices_eq _ _ _)).trans ?_, hargs⟩
  · rw [e0, e1, e2, e3, e4]
    exact (Cert.Equation.output_eq _ _ hfin).symm
  · rw [e0, e1, e2]
    exact (Cert.Equation.indices_eq hfin).symm

/-- Every claim of the certificate. -/
theorem claim : Cert.Claim :=
  ⟨Cert.Kernel.Gen.facts, Cert.KernelIdeal.Gen.facts, Cert.ReferenceIdeal.Gen.facts, Cert.Pre_gate_finite.Gen.facts,
    frame_kernel, fun m ρ _ => frame_ideal m ρ, fun m ρ _ => frame_ideal m ρ,
    fun m ρ _ => frame_reference m ρ, fun m ρ _ => frame_reference m ρ, trivial, algebraic⟩

end Cert.Proof

end
